-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_v280) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x4096x64 : Shape := ⟨3, ![16, 4096, 64]⟩
abbrev S8x8192x64 : Shape := ⟨3, ![8, 8192, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel
  bcast_S_S8x8192x64 : S_.BroadcastsInDim S8x8192x64 (![] : Fin 0 → Fin S8x8192x64.rank)
  reducesTo_S8x8192x64_S_d0_1_2 : S8x8192x64.ReducesTo [0, 1, 2] S_

variable [Facts]

def fn {F : FTy → Type} [FloatOps F] (main_arg0 : FVec F S16x4096x64 .f32) (main_arg1 : FVec F S8x8192x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S8x8192x64 .f32 := Host.absf main_arg1
  let main_cst_0 : FVec F S_ .f32 := constant S_ .f32 0x7F800000#32
  let main_v5 : FVec F S8x8192x64 .f32 := broadcastInDim S8x8192x64 ![] bcast_S_S8x8192x64 main_cst_0
  let main_v6 : IVec S8x8192x64 1 := cmpf .olt main_v4 main_v5
  let main_c_1 : IVec S_ 1 := constantI S_ 1 1#1
  let main_v7 : IVec S_ 1 := (fun x v => Host.reduce IntOp.andi x v reducesTo_S8x8192x64_S_d0_1_2 h_S_) main_v6 main_c_1
  let main_v8 : IVec S_ 1 := andi main_v3 main_v7
  main_v8
-- ==== Kernel.lean ====
abbrev S16x4096x64 : Shape := ⟨3, ![16, 4096, 64]⟩
abbrev S8x8192x64 : Shape := ⟨3, ![8, 8192, 64]⟩
abbrev S65536x64 : Shape := ⟨2, ![65536, 64]⟩
abbrev S_ : Shape := ⟨0, ![]⟩
abbrev S8x8192 : Shape := ⟨2, ![8, 8192]⟩
abbrev S8x1x8192 : Shape := ⟨3, ![8, 1, 8192]⟩
abbrev S8x64 : Shape := ⟨2, ![8, 64]⟩
abbrev S256x64 : Shape := ⟨2, ![256, 64]⟩
abbrev S256x8192 : Shape := ⟨2, ![256, 8192]⟩
abbrev S1x8192x64 : Shape := ⟨3, ![1, 8192, 64]⟩
abbrev S8192x64 : Shape := ⟨2, ![8192, 64]⟩
abbrev S256 : Shape := ⟨1, ![256]⟩
abbrev S256x1 : Shape := ⟨2, ![256, 1]⟩
abbrev S1x1x8192 : Shape := ⟨3, ![1, 1, 8192]⟩
abbrev S1x8192 : Shape := ⟨2, ![1, 8192]⟩
abbrev S1x64 : Shape := ⟨2, ![1, 64]⟩
abbrev S64 : Shape := ⟨1, ![64]⟩

abbrev nBuf : Space → Nat
  | .hbm => 16
  | .vmem => 7
  | .smem => 0
  | _ => 0

abbrev bufTy : (tb : Table) → Fin (tcTables nBuf tb) → BufTy
  | .hbm, ⟨0, _⟩ => ⟨S16x4096x64, .f32⟩
  | .hbm, ⟨1, _⟩ => ⟨S8x8192x64, .f32⟩
  | .hbm, ⟨2, _⟩ => ⟨S65536x64, .f32⟩
  | .hbm, ⟨3, _⟩ => ⟨S8x8192x64, .f32⟩
  | .hbm, ⟨4, _⟩ => ⟨S_, .f32⟩
  | .hbm, ⟨5, _⟩ => ⟨S8x8192, .f32⟩
  | .hbm, ⟨6, _⟩ => ⟨S8x1x8192, .f32⟩
  | .hbm, ⟨7, _⟩ => ⟨S65536x64, .f32⟩
  | .hbm, ⟨8, _⟩ => ⟨S8x64, .f32⟩
  | .hbm, ⟨9, _⟩ => ⟨S16x4096x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S256x64, .f32⟩
  | .local _ .vmem, ⟨1, _⟩ => ⟨S256x64, .f32⟩
  | .local _ .vmem, ⟨2, _⟩ => ⟨S8x8192x64, .f32⟩
  | .local _ .vmem, ⟨3, _⟩ => ⟨S8x1x8192, .f32⟩
  | .local _ .vmem, ⟨4, _⟩ => ⟨S256x64, .f32⟩
  | .local _ .vmem, ⟨5, _⟩ => ⟨S256x64, .f32⟩
  | .local _ .vmem, ⟨6, _⟩ => ⟨S8x64, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x4096x64 : Shape := ⟨3, ![16, 4096, 64]⟩
abbrev S8x8192x64 : Shape := ⟨3, ![8, 8192, 64]⟩
abbrev S_ : Shape := ⟨0, ![]⟩
abbrev S1x8192x64 : Shape := ⟨3, ![1, 8192, 64]⟩
abbrev S8192x64 : Shape := ⟨2, ![8192, 64]⟩
abbrev S65536x64 : Shape := ⟨2, ![65536, 64]⟩
abbrev S65536 : Shape := ⟨1, ![65536]⟩
abbrev S65536x1 : Shape := ⟨2, ![65536, 1]⟩
abbrev S64x8192 : Shape := ⟨2, ![64, 8192]⟩
abbrev S65536x8192 : Shape := ⟨2, ![65536, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩

abbrev nBuf : Space → Nat
  | .hbm => 557
  | .vmem => 0
  | .smem => 0
  | _ => 0

abbrev hbmTy0_0 (i : Nat) : BufTy := match i % 128 with
  | 0 => ⟨S16x4096x64, .f32⟩
  | 1 => ⟨S8x8192x64, .f32⟩
  | 2 => ⟨S_, .f32⟩
  | 3 => ⟨S16x4096x64, .f32⟩
  | 4 => ⟨S1x8192x64, .f32⟩
  | 5 => ⟨S8192x64, .f32⟩
  | 6 => ⟨S65536x64, .f32⟩
  | 7 => ⟨S65536x64, .f32⟩
  | 8 => ⟨S_, .f32⟩
  | 9 => ⟨S65536, .f32⟩
  | 10 => ⟨S65536x1, .f32⟩
  | 11 => ⟨S_, .f32⟩
  | 12 => ⟨S65536x64, .f32⟩
  | 13 => ⟨S65536x64, .f32⟩
  | 14 => ⟨S64x8192, .f32⟩
  | 15 => ⟨S65536x8192, .f32⟩
  | 16 => ⟨S65536x8192, .f32⟩
  | 17 => ⟨S65536x8192, .f32⟩
  | 18 => ⟨S8192x64, .f32⟩
  | 19 => ⟨S_, .f32⟩
  | 20 => ⟨S8192, .f32⟩
  | 21 => ⟨S1x8192, .f32⟩
  | 22 => ⟨S65536x8192, .f32⟩
  | 23 => ⟨S65536x8192, .f32⟩
  | 24 => ⟨S65536x8192, .i32⟩
  | 25 => ⟨S_, .f32⟩
  | 26 => ⟨S_, .i32⟩
  | 27 => ⟨S65536, .f32⟩
  | 28 => ⟨S65536, .i32⟩
  | 29 => ⟨S_, .i32⟩
  | 30 => ⟨S65536, .i32⟩
  | 31 => ⟨S65536, .i1⟩
  | 32 => ⟨S_, .i32⟩
  | 33 => ⟨S65536, .i32⟩
  | 34 => ⟨S65536, .i32⟩
  | 35 => ⟨S65536, .i32⟩
  | 36 => ⟨S65536x1, .i32⟩
  | 37 => ⟨S1, .i32⟩
  | 38 => ⟨S_, .i32⟩
  | 39 => ⟨S65536x1, .i32⟩
  | 40 => ⟨S65536x1, .i1⟩
  | 41 => ⟨S1x1, .i32⟩
  | 42 => ⟨S65536x1, .i32⟩
  | 43 => ⟨S65536x1, .i1⟩
  | 44 => ⟨S65536x1, .i1⟩
  | 45 => ⟨S_, .i1⟩
  | 46 => ⟨S65536, .i1⟩
  | 47 => ⟨S65536x64, .f32⟩
  | 48 => ⟨S65536x64, .i1⟩
  | 49 => ⟨S_, .f32⟩
  | 50 => ⟨S65536x64, .f32⟩
  | 51 => ⟨S65536x64, .f32⟩
  | 52 => ⟨S16x4096x64, .f32⟩
  | 53 => ⟨S16x4096x64, .f32⟩
  | 54 => ⟨S16x4096x64, .f32⟩
  | 55 => ⟨S_, .f32⟩
  | 56 => ⟨S_, .f32⟩
  | 57 => ⟨S_, .f32⟩
  | 58 => ⟨S_, .f32⟩
  | 59 => ⟨S16x4096x64, .f32⟩
  | 60 => ⟨S16x4096x64, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S16x4096x64, .f32⟩
  | 69 => ⟨S16x4096x64, .f32⟩
  | 70 => ⟨S16x4096x64, .f32⟩
  | 71 => ⟨S16x4096x64, .f32⟩
  | 72 => ⟨S_, .f32⟩
  | 73 => ⟨S_, .f32⟩
  | 74 => ⟨S1x8192x64, .f32⟩
  | 75 => ⟨S8192x64, .f32⟩
  | 76 => ⟨S65536x64, .f32⟩
  | 77 => ⟨S65536x64, .f32⟩
  | 78 => ⟨S_, .f32⟩
  | 79 => ⟨S65536, .f32⟩
  | 80 => ⟨S65536x1, .f32⟩
  | 81 => ⟨S_, .f32⟩
  | 82 => ⟨S65536x64, .f32⟩
  | 83 => ⟨S65536x64, .f32⟩
  | 84 => ⟨S64x8192, .f32⟩
  | 85 => ⟨S65536x8192, .f32⟩
  | 86 => ⟨S65536x8192, .f32⟩
  | 87 => ⟨S65536x8192, .f32⟩
  | 88 => ⟨S8192x64, .f32⟩
  | 89 => ⟨S_, .f32⟩
  | 90 => ⟨S8192, .f32⟩
  | 91 => ⟨S1x8192, .f32⟩
  | 92 => ⟨S65536x8192, .f32⟩
  | 93 => ⟨S65536x8192, .f32⟩
  | 94 => ⟨S65536x8192, .i32⟩
  | 95 => ⟨S_, .f32⟩
  | 96 => ⟨S_, .i32⟩
  | 97 => ⟨S65536, .f32⟩
  | 98 => ⟨S65536, .i32⟩
  | 99 => ⟨S_, .i32⟩
  | 100 => ⟨S65536, .i32⟩
  | 101 => ⟨S65536, .i1⟩
  | 102 => ⟨S_, .i32⟩
  | 103 => ⟨S65536, .i32⟩
  | 104 => ⟨S65536, .i32⟩
  | 105 => ⟨S65536, .i32⟩
  | 106 => ⟨S65536x1, .i32⟩
  | 107 => ⟨S1, .i32⟩
  | 108 => ⟨S_, .i32⟩
  | 109 => ⟨S65536x1, .i32⟩
  | 110 => ⟨S65536x1, .i1⟩
  | 111 => ⟨S1x1, .i32⟩
  | 112 => ⟨S65536x1, .i32⟩
  | 113 => ⟨S65536x1, .i1⟩
  | 114 => ⟨S65536x1, .i1⟩
  | 115 => ⟨S_, .i1⟩
  | 116 => ⟨S65536, .i1⟩
  | 117 => ⟨S65536x64, .f32⟩
  | 118 => ⟨S65536x64, .i1⟩
  | 119 => ⟨S_, .f32⟩
  | 120 => ⟨S65536x64, .f32⟩
  | 121 => ⟨S65536x64, .f32⟩
  | 122 => ⟨S16x4096x64, .f32⟩
  | 123 => ⟨S16x4096x64, .f32⟩
  | 124 => ⟨S16x4096x64, .f32⟩
  | 125 => ⟨S_, .f32⟩
  | 126 => ⟨S_, .f32⟩
  | 127 => ⟨S_, .f32⟩
  | _ => ⟨S16x4096x64, .f32⟩

abbrev hbmTy0_1 (i : Nat) : BufTy := match i % 128 with
  | 0 => ⟨S_, .f32⟩
  | 1 => ⟨S16x4096x64, .f32⟩
  | 2 => ⟨S16x4096x64, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S16x4096x64, .f32⟩
  | 11 => ⟨S16x4096x64, .f32⟩
  | 12 => ⟨S16x4096x64, .f32⟩
  | 13 => ⟨S16x4096x64, .f32⟩
  | 14 => ⟨S_, .f32⟩
  | 15 => ⟨S1x8192x64, .f32⟩
  | 16 => ⟨S8192x64, .f32⟩
  | 17 => ⟨S65536x64, .f32⟩
  | 18 => ⟨S65536x64, .f32⟩
  | 19 => ⟨S_, .f32⟩
  | 20 => ⟨S65536, .f32⟩
  | 21 => ⟨S65536x1, .f32⟩
  | 22 => ⟨S_, .f32⟩
  | 23 => ⟨S65536x64, .f32⟩
  | 24 => ⟨S65536x64, .f32⟩
  | 25 => ⟨S64x8192, .f32⟩
  | 26 => ⟨S65536x8192, .f32⟩
  | 27 => ⟨S65536x8192, .f32⟩
  | 28 => ⟨S65536x8192, .f32⟩
  | 29 => ⟨S8192x64, .f32⟩
  | 30 => ⟨S_, .f32⟩
  | 31 => ⟨S8192, .f32⟩
  | 32 => ⟨S1x8192, .f32⟩
  | 33 => ⟨S65536x8192, .f32⟩
  | 34 => ⟨S65536x8192, .f32⟩
  | 35 => ⟨S65536x8192, .i32⟩
  | 36 => ⟨S_, .f32⟩
  | 37 => ⟨S_, .i32⟩
  | 38 => ⟨S65536, .f32⟩
  | 39 => ⟨S65536, .i32⟩
  | 40 => ⟨S_, .i32⟩
  | 41 => ⟨S65536, .i32⟩
  | 42 => ⟨S65536, .i1⟩
  | 43 => ⟨S_, .i32⟩
  | 44 => ⟨S65536, .i32⟩
  | 45 => ⟨S65536, .i32⟩
  | 46 => ⟨S65536, .i32⟩
  | 47 => ⟨S65536x1, .i32⟩
  | 48 => ⟨S1, .i32⟩
  | 49 => ⟨S_, .i32⟩
  | 50 => ⟨S65536x1, .i32⟩
  | 51 => ⟨S65536x1, .i1⟩
  | 52 => ⟨S1x1, .i32⟩
  | 53 => ⟨S65536x1, .i32⟩
  | 54 => ⟨S65536x1, .i1⟩
  | 55 => ⟨S65536x1, .i1⟩
  | 56 => ⟨S_, .i1⟩
  | 57 => ⟨S65536, .i1⟩
  | 58 => ⟨S65536x64, .f32⟩
  | 59 => ⟨S65536x64, .i1⟩
  | 60 => ⟨S_, .f32⟩
  | 61 => ⟨S65536x64, .f32⟩
  | 62 => ⟨S65536x64, .f32⟩
  | 63 => ⟨S16x4096x64, .f32⟩
  | 64 => ⟨S16x4096x64, .f32⟩
  | 65 => ⟨S16x4096x64, .f32⟩
  | 66 => ⟨S_, .f32⟩
  | 67 => ⟨S_, .f32⟩
  | 68 => ⟨S_, .f32⟩
  | 69 => ⟨S_, .f32⟩
  | 70 => ⟨S16x4096x64, .f32⟩
  | 71 => ⟨S16x4096x64, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S16x4096x64, .f32⟩
  | 80 => ⟨S16x4096x64, .f32⟩
  | 81 => ⟨S16x4096x64, .f32⟩
  | 82 => ⟨S16x4096x64, .f32⟩
  | 83 => ⟨S_, .f32⟩
  | 84 => ⟨S1x8192x64, .f32⟩
  | 85 => ⟨S8192x64, .f32⟩
  | 86 => ⟨S65536x64, .f32⟩
  | 87 => ⟨S65536x64, .f32⟩
  | 88 => ⟨S_, .f32⟩
  | 89 => ⟨S65536, .f32⟩
  | 90 => ⟨S65536x1, .f32⟩
  | 91 => ⟨S_, .f32⟩
  | 92 => ⟨S65536x64, .f32⟩
  | 93 => ⟨S65536x64, .f32⟩
  | 94 => ⟨S64x8192, .f32⟩
  | 95 => ⟨S65536x8192, .f32⟩
  | 96 => ⟨S65536x8192, .f32⟩
  | 97 => ⟨S65536x8192, .f32⟩
  | 98 => ⟨S8192x64, .f32⟩
  | 99 => ⟨S_, .f32⟩
  | 100 => ⟨S8192, .f32⟩
  | 101 => ⟨S1x8192, .f32⟩
  | 102 => ⟨S65536x8192, .f32⟩
  | 103 => ⟨S65536x8192, .f32⟩
  | 104 => ⟨S65536x8192, .i32⟩
  | 105 => ⟨S_, .f32⟩
  | 106 => ⟨S_, .i32⟩
  | 107 => ⟨S65536, .f32⟩
  | 108 => ⟨S65536, .i32⟩
  | 109 => ⟨S_, .i32⟩
  | 110 => ⟨S65536, .i32⟩
  | 111 => ⟨S65536, .i1⟩
  | 112 => ⟨S_, .i32⟩
  | 113 => ⟨S65536, .i32⟩
  | 114 => ⟨S65536, .i32⟩
  | 115 => ⟨S65536, .i32⟩
  | 116 => ⟨S65536x1, .i32⟩
  | 117 => ⟨S1, .i32⟩
  | 118 => ⟨S_, .i32⟩
  | 119 => ⟨S65536x1, .i32⟩
  | 120 => ⟨S65536x1, .i1⟩
  | 121 => ⟨S1x1, .i32⟩
  | 122 => ⟨S65536x1, .i32⟩
  | 123 => ⟨S65536x1, .i1⟩
  | 124 => ⟨S65536x1, .i1⟩
  | 125 => ⟨S_, .i1⟩
  | 126 => ⟨S65536, .i1⟩
  | 127 => ⟨S65536x64, .f32⟩
  | _ => ⟨S16x4096x64, .f32⟩

abbrev hbmTy0_2 (i : Nat) : BufTy := match i % 128 with
  | 0 => ⟨S65536x64, .i1⟩
  | 1 => ⟨S_, .f32⟩
  | 2 => ⟨S65536x64, .f32⟩
  | 3 => ⟨S65536x64, .f32⟩
  | 4 => ⟨S16x4096x64, .f32⟩
  | 5 => ⟨S16x4096x64, .f32⟩
  | 6 => ⟨S16x4096x64, .f32⟩
  | 7 => ⟨S_, .f32⟩
  | 8 => ⟨S_, .f32⟩
  | 9 => ⟨S_, .f32⟩
  | 10 => ⟨S_, .f32⟩
  | 11 => ⟨S16x4096x64, .f32⟩
  | 12 => ⟨S16x4096x64, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S16x4096x64, .f32⟩
  | 21 => ⟨S16x4096x64, .f32⟩
  | 22 => ⟨S16x4096x64, .f32⟩
  | 23 => ⟨S16x4096x64, .f32⟩
  | 24 => ⟨S_, .f32⟩
  | 25 => ⟨S1x8192x64, .f32⟩
  | 26 => ⟨S8192x64, .f32⟩
  | 27 => ⟨S65536x64, .f32⟩
  | 28 => ⟨S65536x64, .f32⟩
  | 29 => ⟨S_, .f32⟩
  | 30 => ⟨S65536, .f32⟩
  | 31 => ⟨S65536x1, .f32⟩
  | 32 => ⟨S_, .f32⟩
  | 33 => ⟨S65536x64, .f32⟩
  | 34 => ⟨S65536x64, .f32⟩
  | 35 => ⟨S64x8192, .f32⟩
  | 36 => ⟨S65536x8192, .f32⟩
  | 37 => ⟨S65536x8192, .f32⟩
  | 38 => ⟨S65536x8192, .f32⟩
  | 39 => ⟨S8192x64, .f32⟩
  | 40 => ⟨S_, .f32⟩
  | 41 => ⟨S8192, .f32⟩
  | 42 => ⟨S1x8192, .f32⟩
  | 43 => ⟨S65536x8192, .f32⟩
  | 44 => ⟨S65536x8192, .f32⟩
  | 45 => ⟨S65536x8192, .i32⟩
  | 46 => ⟨S_, .f32⟩
  | 47 => ⟨S_, .i32⟩
  | 48 => ⟨S65536, .f32⟩
  | 49 => ⟨S65536, .i32⟩
  | 50 => ⟨S_, .i32⟩
  | 51 => ⟨S65536, .i32⟩
  | 52 => ⟨S65536, .i1⟩
  | 53 => ⟨S_, .i32⟩
  | 54 => ⟨S65536, .i32⟩
  | 55 => ⟨S65536, .i32⟩
  | 56 => ⟨S65536, .i32⟩
  | 57 => ⟨S65536x1, .i32⟩
  | 58 => ⟨S1, .i32⟩
  | 59 => ⟨S_, .i32⟩
  | 60 => ⟨S65536x1, .i32⟩
  | 61 => ⟨S65536x1, .i1⟩
  | 62 => ⟨S1x1, .i32⟩
  | 63 => ⟨S65536x1, .i32⟩
  | 64 => ⟨S65536x1, .i1⟩
  | 65 => ⟨S65536x1, .i1⟩
  | 66 => ⟨S_, .i1⟩
  | 67 => ⟨S65536, .i1⟩
  | 68 => ⟨S65536x64, .f32⟩
  | 69 => ⟨S65536x64, .i1⟩
  | 70 => ⟨S_, .f32⟩
  | 71 => ⟨S65536x64, .f32⟩
  | 72 => ⟨S65536x64, .f32⟩
  | 73 => ⟨S16x4096x64, .f32⟩
  | 74 => ⟨S16x4096x64, .f32⟩
  | 75 => ⟨S16x4096x64, .f32⟩
  | 76 => ⟨S_, .f32⟩
  | 77 => ⟨S_, .f32⟩
  | 78 => ⟨S_, .f32⟩
  | 79 => ⟨S_, .f32⟩
  | 80 => ⟨S16x4096x64, .f32⟩
  | 81 => ⟨S16x4096x64, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S16x4096x64, .f32⟩
  | 90 => ⟨S16x4096x64, .f32⟩
  | 91 => ⟨S16x4096x64, .f32⟩
  | 92 => ⟨S16x4096x64, .f32⟩
  | 93 => ⟨S_, .f32⟩
  | 94 => ⟨S1x8192x64, .f32⟩
  | 95 => ⟨S8192x64, .f32⟩
  | 96 => ⟨S65536x64, .f32⟩
  | 97 => ⟨S65536x64, .f32⟩
  | 98 => ⟨S_, .f32⟩
  | 99 => ⟨S65536, .f32⟩
  | 100 => ⟨S65536x1, .f32⟩
  | 101 => ⟨S_, .f32⟩
  | 102 => ⟨S65536x64, .f32⟩
  | 103 => ⟨S65536x64, .f32⟩
  | 104 => ⟨S64x8192, .f32⟩
  | 105 => ⟨S65536x8192, .f32⟩
  | 106 => ⟨S65536x8192, .f32⟩
  | 107 => ⟨S65536x8192, .f32⟩
  | 108 => ⟨S8192x64, .f32⟩
  | 109 => ⟨S_, .f32⟩
  | 110 => ⟨S8192, .f32⟩
  | 111 => ⟨S1x8192, .f32⟩
  | 112 => ⟨S65536x8192, .f32⟩
  | 113 => ⟨S65536x8192, .f32⟩
  | 114 => ⟨S65536x8192, .i32⟩
  | 115 => ⟨S_, .f32⟩
  | 116 => ⟨S_, .i32⟩
  | 117 => ⟨S65536, .f32⟩
  | 118 => ⟨S65536, .i32⟩
  | 119 => ⟨S_, .i32⟩
  | 120 => ⟨S65536, .i32⟩
  | 121 => ⟨S65536, .i1⟩
  | 122 => ⟨S_, .i32⟩
  | 123 => ⟨S65536, .i32⟩
  | 124 => ⟨S65536, .i32⟩
  | 125 => ⟨S65536, .i32⟩
  | 126 => ⟨S65536x1, .i32⟩
  | 127 => ⟨S1, .i32⟩
  | _ => ⟨S16x4096x64, .f32⟩

abbrev hbmTy0_3 (i : Nat) : BufTy := match i % 128 with
  | 0 => ⟨S_, .i32⟩
  | 1 => ⟨S65536x1, .i32⟩
  | 2 => ⟨S65536x1, .i1⟩
  | 3 => ⟨S1x1, .i32⟩
  | 4 => ⟨S65536x1, .i32⟩
  | 5 => ⟨S65536x1, .i1⟩
  | 6 => ⟨S65536x1, .i1⟩
  | 7 => ⟨S_, .i1⟩
  | 8 => ⟨S65536, .i1⟩
  | 9 => ⟨S65536x64, .f32⟩
  | 10 => ⟨S65536x64, .i1⟩
  | 11 => ⟨S_, .f32⟩
  | 12 => ⟨S65536x64, .f32⟩
  | 13 => ⟨S65536x64, .f32⟩
  | 14 => ⟨S16x4096x64, .f32⟩
  | 15 => ⟨S16x4096x64, .f32⟩
  | 16 => ⟨S16x4096x64, .f32⟩
  | 17 => ⟨S_, .f32⟩
  | 18 => ⟨S_, .f32⟩
  | 19 => ⟨S_, .f32⟩
  | 20 => ⟨S_, .f32⟩
  | 21 => ⟨S16x4096x64, .f32⟩
  | 22 => ⟨S16x4096x64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S16x4096x64, .f32⟩
  | 31 => ⟨S16x4096x64, .f32⟩
  | 32 => ⟨S16x4096x64, .f32⟩
  | 33 => ⟨S16x4096x64, .f32⟩
  | 34 => ⟨S_, .f32⟩
  | 35 => ⟨S1x8192x64, .f32⟩
  | 36 => ⟨S8192x64, .f32⟩
  | 37 => ⟨S65536x64, .f32⟩
  | 38 => ⟨S65536x64, .f32⟩
  | 39 => ⟨S_, .f32⟩
  | 40 => ⟨S65536, .f32⟩
  | 41 => ⟨S65536x1, .f32⟩
  | 42 => ⟨S_, .f32⟩
  | 43 => ⟨S65536x64, .f32⟩
  | 44 => ⟨S65536x64, .f32⟩
  | 45 => ⟨S64x8192, .f32⟩
  | 46 => ⟨S65536x8192, .f32⟩
  | 47 => ⟨S65536x8192, .f32⟩
  | 48 => ⟨S65536x8192, .f32⟩
  | 49 => ⟨S8192x64, .f32⟩
  | 50 => ⟨S_, .f32⟩
  | 51 => ⟨S8192, .f32⟩
  | 52 => ⟨S1x8192, .f32⟩
  | 53 => ⟨S65536x8192, .f32⟩
  | 54 => ⟨S65536x8192, .f32⟩
  | 55 => ⟨S65536x8192, .i32⟩
  | 56 => ⟨S_, .f32⟩
  | 57 => ⟨S_, .i32⟩
  | 58 => ⟨S65536, .f32⟩
  | 59 => ⟨S65536, .i32⟩
  | 60 => ⟨S_, .i32⟩
  | 61 => ⟨S65536, .i32⟩
  | 62 => ⟨S65536, .i1⟩
  | 63 => ⟨S_, .i32⟩
  | 64 => ⟨S65536, .i32⟩
  | 65 => ⟨S65536, .i32⟩
  | 66 => ⟨S65536, .i32⟩
  | 67 => ⟨S65536x1, .i32⟩
  | 68 => ⟨S1, .i32⟩
  | 69 => ⟨S_, .i32⟩
  | 70 => ⟨S65536x1, .i32⟩
  | 71 => ⟨S65536x1, .i1⟩
  | 72 => ⟨S1x1, .i32⟩
  | 73 => ⟨S65536x1, .i32⟩
  | 74 => ⟨S65536x1, .i1⟩
  | 75 => ⟨S65536x1, .i1⟩
  | 76 => ⟨S_, .i1⟩
  | 77 => ⟨S65536, .i1⟩
  | 78 => ⟨S65536x64, .f32⟩
  | 79 => ⟨S65536x64, .i1⟩
  | 80 => ⟨S_, .f32⟩
  | 81 => ⟨S65536x64, .f32⟩
  | 82 => ⟨S65536x64, .f32⟩
  | 83 => ⟨S16x4096x64, .f32⟩
  | 84 => ⟨S16x4096x64, .f32⟩
  | 85 => ⟨S16x4096x64, .f32⟩
  | 86 => ⟨S_, .f32⟩
  | 87 => ⟨S_, .f32⟩
  | 88 => ⟨S_, .f32⟩
  | 89 => ⟨S_, .f32⟩
  | 90 => ⟨S16x4096x64, .f32⟩
  | 91 => ⟨S16x4096x64, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S16x4096x64, .f32⟩
  | 100 => ⟨S16x4096x64, .f32⟩
  | 101 => ⟨S16x4096x64, .f32⟩
  | 102 => ⟨S16x4096x64, .f32⟩
  | 103 => ⟨S_, .f32⟩
  | 104 => ⟨S1x8192x64, .f32⟩
  | 105 => ⟨S8192x64, .f32⟩
  | 106 => ⟨S65536x64, .f32⟩
  | 107 => ⟨S65536x64, .f32⟩
  | 108 => ⟨S_, .f32⟩
  | 109 => ⟨S65536, .f32⟩
  | 110 => ⟨S65536x1, .f32⟩
  | 111 => ⟨S_, .f32⟩
  | 112 => ⟨S65536x64, .f32⟩
  | 113 => ⟨S65536x64, .f32⟩
  | 114 => ⟨S64x8192, .f32⟩
  | 115 => ⟨S65536x8192, .f32⟩
  | 116 => ⟨S65536x8192, .f32⟩
  | 117 => ⟨S65536x8192, .f32⟩
  | 118 => ⟨S8192x64, .f32⟩
  | 119 => ⟨S_, .f32⟩
  | 120 => ⟨S8192, .f32⟩
  | 121 => ⟨S1x8192, .f32⟩
  | 122 => ⟨S65536x8192, .f32⟩
  | 123 => ⟨S65536x8192, .f32⟩
  | 124 => ⟨S65536x8192, .i32⟩
  | 125 => ⟨S_, .f32⟩
  | 126 => ⟨S_, .i32⟩
  | 127 => ⟨S65536, .f32⟩
  | _ => ⟨S16x4096x64, .f32⟩

abbrev hbmTy0_4 (i : Nat) : BufTy := match i % 128 with
  | 0 => ⟨S65536, .i32⟩
  | 1 => ⟨S_, .i32⟩
  | 2 => ⟨S65536, .i32⟩
  | 3 => ⟨S65536, .i1⟩
  | 4 => ⟨S_, .i32⟩
  | 5 => ⟨S65536, .i32⟩
  | 6 => ⟨S65536, .i32⟩
  | 7 => ⟨S65536, .i32⟩
  | 8 => ⟨S65536x1, .i32⟩
  | 9 => ⟨S1, .i32⟩
  | 10 => ⟨S_, .i32⟩
  | 11 => ⟨S65536x1, .i32⟩
  | 12 => ⟨S65536x1, .i1⟩
  | 13 => ⟨S1x1, .i32⟩
  | 14 => ⟨S65536x1, .i32⟩
  | 15 => ⟨S65536x1, .i1⟩
  | 16 => ⟨S65536x1, .i1⟩
  | 17 => ⟨S_, .i1⟩
  | 18 => ⟨S65536, .i1⟩
  | 19 => ⟨S65536x64, .f32⟩
  | 20 => ⟨S65536x64, .i1⟩
  | 21 => ⟨S_, .f32⟩
  | 22 => ⟨S65536x64, .f32⟩
  | 23 => ⟨S65536x64, .f32⟩
  | 24 => ⟨S16x4096x64, .f32⟩
  | 25 => ⟨S16x4096x64, .f32⟩
  | 26 => ⟨S16x4096x64, .f32⟩
  | 27 => ⟨S_, .f32⟩
  | 28 => ⟨S_, .f32⟩
  | 29 => ⟨S_, .f32⟩
  | 30 => ⟨S_, .f32⟩
  | 31 => ⟨S16x4096x64, .f32⟩
  | 32 => ⟨S16x4096x64, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S16x4096x64, .f32⟩
  | 41 => ⟨S16x4096x64, .f32⟩
  | 42 => ⟨S16x4096x64, .f32⟩
  | 43 => ⟨S16x4096x64, .f32⟩
  | 44 => ⟨S_, .f32⟩
  | _ => ⟨S16x4096x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x4096x64, .f32⟩

abbrev bufTy : (tb : Table) → Fin (tcTables nBuf tb) → BufTy
  | .hbm, ⟨i, _⟩ => hbmTy i
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_8 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_9 : Ref sig .tc := ⟨.hbm, 78, rfl⟩
abbrev main_v40 : Ref sig .tc := ⟨.hbm, 79, rfl⟩
abbrev main_v41 : Ref sig .tc := ⟨.hbm, 80, rfl⟩
abbrev main_cst_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_11 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_call2_v0 : Ref sig .tc := ⟨.hbm, 94, rfl⟩
abbrev main_call2_cst : Ref sig .tc := ⟨.hbm, 95, rfl⟩
abbrev main_call2_c : Ref sig .tc := ⟨.hbm, 96, rfl⟩
abbrev main_call2_v1_0 : Ref sig .tc := ⟨.hbm, 97, rfl⟩
abbrev main_v53 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_cst_12 : Ref sig .tc := ⟨.hbm, 125, rfl⟩
abbrev main_v58 : Ref sig .tc := ⟨.hbm, 126, rfl⟩
abbrev main_cst_13 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_cst_14 : Ref sig .tc := ⟨.hbm, 131, rfl⟩
abbrev main_v62 : Ref sig .tc := ⟨.hbm, 132, rfl⟩
abbrev main_cst_15 : Ref sig .tc := ⟨.hbm, 133, rfl⟩
abbrev main_v63 : Ref sig .tc := ⟨.hbm, 134, rfl⟩
abbrev main_cst_16 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_cst_17 : Ref sig .tc := ⟨.hbm, 147, rfl⟩
abbrev main_v75 : Ref sig .tc := ⟨.hbm, 148, rfl⟩
abbrev main_v76 : Ref sig .tc := ⟨.hbm, 149, rfl⟩
abbrev main_cst_18 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_cst_19 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_call4_v0 : Ref sig .tc := ⟨.hbm, 163, rfl⟩
abbrev main_call4_cst : Ref sig .tc := ⟨.hbm, 164, rfl⟩
abbrev main_call4_c : Ref sig .tc := ⟨.hbm, 165, rfl⟩
abbrev main_call4_v1_0 : Ref sig .tc := ⟨.hbm, 166, rfl⟩
abbrev main_v88 : Ref sig .tc := ⟨.hbm, 167, rfl⟩
abbrev main_call5_c : Ref sig .tc := ⟨.hbm, 168, rfl⟩
abbrev main_call5_v0 : Ref sig .tc := ⟨.hbm, 169, rfl⟩
abbrev main_call5_v1 : Ref sig .tc := ⟨.hbm, 170, rfl⟩
abbrev main_call5_c_0 : Ref sig .tc := ⟨.hbm, 171, rfl⟩
abbrev main_call5_v2 : Ref sig .tc := ⟨.hbm, 172, rfl⟩
abbrev main_call5_v3 : Ref sig .tc := ⟨.hbm, 173, rfl⟩
abbrev main_call5_v4 : Ref sig .tc := ⟨.hbm, 174, rfl⟩
abbrev main_call5_v5 : Ref sig .tc := ⟨.hbm, 175, rfl⟩
abbrev main_call5_c_1 : Ref sig .tc := ⟨.hbm, 176, rfl⟩
abbrev main_call5_c_2 : Ref sig .tc := ⟨.hbm, 177, rfl⟩
abbrev main_call5_v6 : Ref sig .tc := ⟨.hbm, 178, rfl⟩
abbrev main_call5_v7 : Ref sig .tc := ⟨.hbm, 179, rfl⟩
abbrev main_call5_v8 : Ref sig .tc := ⟨.hbm, 180, rfl⟩
abbrev main_call5_v9 : Ref sig .tc := ⟨.hbm, 181, rfl⟩
abbrev main_call5_v10 : Ref sig .tc := ⟨.hbm, 182, rfl⟩
abbrev main_call5_v11 : Ref sig .tc := ⟨.hbm, 183, rfl⟩
abbrev main_call5_c_3 : Ref sig .tc := ⟨.hbm, 184, rfl⟩
abbrev main_call5_v12 : Ref sig .tc := ⟨.hbm, 185, rfl⟩
abbrev main_call5_v13 : Ref sig .tc := ⟨.hbm, 186, rfl⟩
abbrev main_call5_v14 : Ref sig .tc := ⟨.hbm, 187, rfl⟩
abbrev main_call5_cst : Ref sig .tc := ⟨.hbm, 188, rfl⟩
abbrev main_call5_v15 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_cst_20 : Ref sig .tc := ⟨.hbm, 194, rfl⟩
abbrev main_v93 : Ref sig .tc := ⟨.hbm, 195, rfl⟩
abbrev main_cst_21 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_cst_22 : Ref sig .tc := ⟨.hbm, 200, rfl⟩
abbrev main_v97 : Ref sig .tc := ⟨.hbm, 201, rfl⟩
abbrev main_cst_23 : Ref sig .tc := ⟨.hbm, 202, rfl⟩
abbrev main_v98 : Ref sig .tc := ⟨.hbm, 203, rfl⟩
abbrev main_cst_24 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_cst_25 : Ref sig .tc := ⟨.hbm, 216, rfl⟩
abbrev main_v110 : Ref sig .tc := ⟨.hbm, 217, rfl⟩
abbrev main_v111 : Ref sig .tc := ⟨.hbm, 218, rfl⟩
abbrev main_cst_26 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_cst_27 : Ref sig .tc := ⟨.hbm, 227, rfl⟩
abbrev main_v119 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_call6_v0 : Ref sig .tc := ⟨.hbm, 232, rfl⟩
abbrev main_call6_cst : Ref sig .tc := ⟨.hbm, 233, rfl⟩
abbrev main_call6_c : Ref sig .tc := ⟨.hbm, 234, rfl⟩
abbrev main_call6_v1_0 : Ref sig .tc := ⟨.hbm, 235, rfl⟩
abbrev main_v123 : Ref sig .tc := ⟨.hbm, 236, rfl⟩
abbrev main_call7_c : Ref sig .tc := ⟨.hbm, 237, rfl⟩
abbrev main_call7_v0 : Ref sig .tc := ⟨.hbm, 238, rfl⟩
abbrev main_call7_v1 : Ref sig .tc := ⟨.hbm, 239, rfl⟩
abbrev main_call7_c_0 : Ref sig .tc := ⟨.hbm, 240, rfl⟩
abbrev main_call7_v2 : Ref sig .tc := ⟨.hbm, 241, rfl⟩
abbrev main_call7_v3 : Ref sig .tc := ⟨.hbm, 242, rfl⟩
abbrev main_call7_v4 : Ref sig .tc := ⟨.hbm, 243, rfl⟩
abbrev main_call7_v5 : Ref sig .tc := ⟨.hbm, 244, rfl⟩
abbrev main_call7_c_1 : Ref sig .tc := ⟨.hbm, 245, rfl⟩
abbrev main_call7_c_2 : Ref sig .tc := ⟨.hbm, 246, rfl⟩
abbrev main_call7_v6 : Ref sig .tc := ⟨.hbm, 247, rfl⟩
abbrev main_call7_v7 : Ref sig .tc := ⟨.hbm, 248, rfl⟩
abbrev main_call7_v8 : Ref sig .tc := ⟨.hbm, 249, rfl⟩
abbrev main_call7_v9 : Ref sig .tc := ⟨.hbm, 250, rfl⟩
abbrev main_call7_v10 : Ref sig .tc := ⟨.hbm, 251, rfl⟩
abbrev main_call7_v11 : Ref sig .tc := ⟨.hbm, 252, rfl⟩
abbrev main_call7_c_3 : Ref sig .tc := ⟨.hbm, 253, rfl⟩
abbrev main_call7_v12 : Ref sig .tc := ⟨.hbm, 254, rfl⟩
abbrev main_call7_v13 : Ref sig .tc := ⟨.hbm, 255, rfl⟩
abbrev main_call7_v14 : Ref sig .tc := ⟨.hbm, 256, rfl⟩
abbrev main_call7_cst : Ref sig .tc := ⟨.hbm, 257, rfl⟩
abbrev main_call7_v15 : Ref sig .tc := ⟨.hbm, 258, rfl⟩
abbrev main_v124 : Ref sig .tc := ⟨.hbm, 259, rfl⟩
abbrev main_v125 : Ref sig .tc := ⟨.hbm, 260, rfl⟩
abbrev main_v126 : Ref sig .tc := ⟨.hbm, 261, rfl⟩
abbrev main_v127 : Ref sig .tc := ⟨.hbm, 262, rfl⟩
abbrev main_cst_28 : Ref sig .tc := ⟨.hbm, 263, rfl⟩
abbrev main_v128 : Ref sig .tc := ⟨.hbm, 264, rfl⟩
abbrev main_cst_29 : Ref sig .tc := ⟨.hbm, 265, rfl⟩
abbrev main_v129 : Ref sig .tc := ⟨.hbm, 266, rfl⟩
abbrev main_v130 : Ref sig .tc := ⟨.hbm, 267, rfl⟩
abbrev main_v131 : Ref sig .tc := ⟨.hbm, 268, rfl⟩
abbrev main_cst_30 : Ref sig .tc := ⟨.hbm, 269, rfl⟩
abbrev main_v132 : Ref sig .tc := ⟨.hbm, 270, rfl⟩
abbrev main_cst_31 : Ref sig .tc := ⟨.hbm, 271, rfl⟩
abbrev main_v133 : Ref sig .tc := ⟨.hbm, 272, rfl⟩
abbrev main_cst_32 : Ref sig .tc := ⟨.hbm, 273, rfl⟩
abbrev main_v134 : Ref sig .tc := ⟨.hbm, 274, rfl⟩
abbrev main_v135 : Ref sig .tc := ⟨.hbm, 275, rfl⟩
abbrev main_v136 : Ref sig .tc := ⟨.hbm, 276, rfl⟩
abbrev main_v137 : Ref sig .tc := ⟨.hbm, 277, rfl⟩
abbrev main_v138 : Ref sig .tc := ⟨.hbm, 278, rfl⟩
abbrev main_v139 : Ref sig .tc := ⟨.hbm, 279, rfl⟩
abbrev main_v140 : Ref sig .tc := ⟨.hbm, 280, rfl⟩
abbrev main_v141 : Ref sig .tc := ⟨.hbm, 281, rfl⟩
abbrev main_v142 : Ref sig .tc := ⟨.hbm, 282, rfl⟩
abbrev main_v143 : Ref sig .tc := ⟨.hbm, 283, rfl⟩
abbrev main_v144 : Ref sig .tc := ⟨.hbm, 284, rfl⟩
abbrev main_cst_33 : Ref sig .tc := ⟨.hbm, 285, rfl⟩
abbrev main_v145 : Ref sig .tc := ⟨.hbm, 286, rfl⟩
abbrev main_v146 : Ref sig .tc := ⟨.hbm, 287, rfl⟩
abbrev main_cst_34 : Ref sig .tc := ⟨.hbm, 288, rfl⟩
abbrev main_v147 : Ref sig .tc := ⟨.hbm, 289, rfl⟩
abbrev main_v148 : Ref sig .tc := ⟨.hbm, 290, rfl⟩
abbrev main_v149 : Ref sig .tc := ⟨.hbm, 291, rfl⟩
abbrev main_v150 : Ref sig .tc := ⟨.hbm, 292, rfl⟩
abbrev main_v151 : Ref sig .tc := ⟨.hbm, 293, rfl⟩
abbrev main_v152 : Ref sig .tc := ⟨.hbm, 294, rfl⟩
abbrev main_v153 : Ref sig .tc := ⟨.hbm, 295, rfl⟩
abbrev main_cst_35 : Ref sig .tc := ⟨.hbm, 296, rfl⟩
abbrev main_v154 : Ref sig .tc := ⟨.hbm, 297, rfl⟩
abbrev main_v155 : Ref sig .tc := ⟨.hbm, 298, rfl⟩
abbrev main_v156 : Ref sig .tc := ⟨.hbm, 299, rfl⟩
abbrev main_v157 : Ref sig .tc := ⟨.hbm, 300, rfl⟩
abbrev main_call8_v0 : Ref sig .tc := ⟨.hbm, 301, rfl⟩
abbrev main_call8_cst : Ref sig .tc := ⟨.hbm, 302, rfl⟩
abbrev main_call8_c : Ref sig .tc := ⟨.hbm, 303, rfl⟩
abbrev main_call8_v1_0 : Ref sig .tc := ⟨.hbm, 304, rfl⟩
abbrev main_v158 : Ref sig .tc := ⟨.hbm, 305, rfl⟩
abbrev main_call9_c : Ref sig .tc := ⟨.hbm, 306, rfl⟩
abbrev main_call9_v0 : Ref sig .tc := ⟨.hbm, 307, rfl⟩
abbrev main_call9_v1 : Ref sig .tc := ⟨.hbm, 308, rfl⟩
abbrev main_call9_c_0 : Ref sig .tc := ⟨.hbm, 309, rfl⟩
abbrev main_call9_v2 : Ref sig .tc := ⟨.hbm, 310, rfl⟩
abbrev main_call9_v3 : Ref sig .tc := ⟨.hbm, 311, rfl⟩
abbrev main_call9_v4 : Ref sig .tc := ⟨.hbm, 312, rfl⟩
abbrev main_call9_v5 : Ref sig .tc := ⟨.hbm, 313, rfl⟩
abbrev main_call9_c_1 : Ref sig .tc := ⟨.hbm, 314, rfl⟩
abbrev main_call9_c_2 : Ref sig .tc := ⟨.hbm, 315, rfl⟩
abbrev main_call9_v6 : Ref sig .tc := ⟨.hbm, 316, rfl⟩
abbrev main_call9_v7 : Ref sig .tc := ⟨.hbm, 317, rfl⟩
abbrev main_call9_v8 : Ref sig .tc := ⟨.hbm, 318, rfl⟩
abbrev main_call9_v9 : Ref sig .tc := ⟨.hbm, 319, rfl⟩
abbrev main_call9_v10 : Ref sig .tc := ⟨.hbm, 320, rfl⟩
abbrev main_call9_v11 : Ref sig .tc := ⟨.hbm, 321, rfl⟩
abbrev main_call9_c_3 : Ref sig .tc := ⟨.hbm, 322, rfl⟩
abbrev main_call9_v12 : Ref sig .tc := ⟨.hbm, 323, rfl⟩
abbrev main_call9_v13 : Ref sig .tc := ⟨.hbm, 324, rfl⟩
abbrev main_call9_v14 : Ref sig .tc := ⟨.hbm, 325, rfl⟩
abbrev main_call9_cst : Ref sig .tc := ⟨.hbm, 326, rfl⟩
abbrev main_call9_v15 : Ref sig .tc := ⟨.hbm, 327, rfl⟩
abbrev main_v159 : Ref sig .tc := ⟨.hbm, 328, rfl⟩
abbrev main_v160 : Ref sig .tc := ⟨.hbm, 329, rfl⟩
abbrev main_v161 : Ref sig .tc := ⟨.hbm, 330, rfl⟩
abbrev main_v162 : Ref sig .tc := ⟨.hbm, 331, rfl⟩
abbrev main_cst_36 : Ref sig .tc := ⟨.hbm, 332, rfl⟩
abbrev main_v163 : Ref sig .tc := ⟨.hbm, 333, rfl⟩
abbrev main_cst_37 : Ref sig .tc := ⟨.hbm, 334, rfl⟩
abbrev main_v164 : Ref sig .tc := ⟨.hbm, 335, rfl⟩
abbrev main_v165 : Ref sig .tc := ⟨.hbm, 336, rfl⟩
abbrev main_v166 : Ref sig .tc := ⟨.hbm, 337, rfl⟩
abbrev main_cst_38 : Ref sig .tc := ⟨.hbm, 338, rfl⟩
abbrev main_v167 : Ref sig .tc := ⟨.hbm, 339, rfl⟩
abbrev main_cst_39 : Ref sig .tc := ⟨.hbm, 340, rfl⟩
abbrev main_v168 : Ref sig .tc := ⟨.hbm, 341, rfl⟩
abbrev main_cst_40 : Ref sig .tc := ⟨.hbm, 342, rfl⟩
abbrev main_v169 : Ref sig .tc := ⟨.hbm, 343, rfl⟩
abbrev main_v170 : Ref sig .tc := ⟨.hbm, 344, rfl⟩
abbrev main_v171 : Ref sig .tc := ⟨.hbm, 345, rfl⟩
abbrev main_v172 : Ref sig .tc := ⟨.hbm, 346, rfl⟩
abbrev main_v173 : Ref sig .tc := ⟨.hbm, 347, rfl⟩
abbrev main_v174 : Ref sig .tc := ⟨.hbm, 348, rfl⟩
abbrev main_v175 : Ref sig .tc := ⟨.hbm, 349, rfl⟩
abbrev main_v176 : Ref sig .tc := ⟨.hbm, 350, rfl⟩
abbrev main_v177 : Ref sig .tc := ⟨.hbm, 351, rfl⟩
abbrev main_v178 : Ref sig .tc := ⟨.hbm, 352, rfl⟩
abbrev main_v179 : Ref sig .tc := ⟨.hbm, 353, rfl⟩
abbrev main_cst_41 : Ref sig .tc := ⟨.hbm, 354, rfl⟩
abbrev main_v180 : Ref sig .tc := ⟨.hbm, 355, rfl⟩
abbrev main_v181 : Ref sig .tc := ⟨.hbm, 356, rfl⟩
abbrev main_cst_42 : Ref sig .tc := ⟨.hbm, 357, rfl⟩
abbrev main_v182 : Ref sig .tc := ⟨.hbm, 358, rfl⟩
abbrev main_v183 : Ref sig .tc := ⟨.hbm, 359, rfl⟩
abbrev main_v184 : Ref sig .tc := ⟨.hbm, 360, rfl⟩
abbrev main_v185 : Ref sig .tc := ⟨.hbm, 361, rfl⟩
abbrev main_v186 : Ref sig .tc := ⟨.hbm, 362, rfl⟩
abbrev main_v187 : Ref sig .tc := ⟨.hbm, 363, rfl⟩
abbrev main_v188 : Ref sig .tc := ⟨.hbm, 364, rfl⟩
abbrev main_cst_43 : Ref sig .tc := ⟨.hbm, 365, rfl⟩
abbrev main_v189 : Ref sig .tc := ⟨.hbm, 366, rfl⟩
abbrev main_v190 : Ref sig .tc := ⟨.hbm, 367, rfl⟩
abbrev main_v191 : Ref sig .tc := ⟨.hbm, 368, rfl⟩
abbrev main_v192 : Ref sig .tc := ⟨.hbm, 369, rfl⟩
abbrev main_call10_v0 : Ref sig .tc := ⟨.hbm, 370, rfl⟩
abbrev main_call10_cst : Ref sig .tc := ⟨.hbm, 371, rfl⟩
abbrev main_call10_c : Ref sig .tc := ⟨.hbm, 372, rfl⟩
abbrev main_call10_v1_0 : Ref sig .tc := ⟨.hbm, 373, rfl⟩
abbrev main_v193 : Ref sig .tc := ⟨.hbm, 374, rfl⟩
abbrev main_call11_c : Ref sig .tc := ⟨.hbm, 375, rfl⟩
abbrev main_call11_v0 : Ref sig .tc := ⟨.hbm, 376, rfl⟩
abbrev main_call11_v1 : Ref sig .tc := ⟨.hbm, 377, rfl⟩
abbrev main_call11_c_0 : Ref sig .tc := ⟨.hbm, 378, rfl⟩
abbrev main_call11_v2 : Ref sig .tc := ⟨.hbm, 379, rfl⟩
abbrev main_call11_v3 : Ref sig .tc := ⟨.hbm, 380, rfl⟩
abbrev main_call11_v4 : Ref sig .tc := ⟨.hbm, 381, rfl⟩
abbrev main_call11_v5 : Ref sig .tc := ⟨.hbm, 382, rfl⟩
abbrev main_call11_c_1 : Ref sig .tc := ⟨.hbm, 383, rfl⟩
abbrev main_call11_c_2 : Ref sig .tc := ⟨.hbm, 384, rfl⟩
abbrev main_call11_v6 : Ref sig .tc := ⟨.hbm, 385, rfl⟩
abbrev main_call11_v7 : Ref sig .tc := ⟨.hbm, 386, rfl⟩
abbrev main_call11_v8 : Ref sig .tc := ⟨.hbm, 387, rfl⟩
abbrev main_call11_v9 : Ref sig .tc := ⟨.hbm, 388, rfl⟩
abbrev main_call11_v10 : Ref sig .tc := ⟨.hbm, 389, rfl⟩
abbrev main_call11_v11 : Ref sig .tc := ⟨.hbm, 390, rfl⟩
abbrev main_call11_c_3 : Ref sig .tc := ⟨.hbm, 391, rfl⟩
abbrev main_call11_v12 : Ref sig .tc := ⟨.hbm, 392, rfl⟩
abbrev main_call11_v13 : Ref sig .tc := ⟨.hbm, 393, rfl⟩
abbrev main_call11_v14 : Ref sig .tc := ⟨.hbm, 394, rfl⟩
abbrev main_call11_cst : Ref sig .tc := ⟨.hbm, 395, rfl⟩
abbrev main_call11_v15 : Ref sig .tc := ⟨.hbm, 396, rfl⟩
abbrev main_v194 : Ref sig .tc := ⟨.hbm, 397, rfl⟩
abbrev main_v195 : Ref sig .tc := ⟨.hbm, 398, rfl⟩
abbrev main_v196 : Ref sig .tc := ⟨.hbm, 399, rfl⟩
abbrev main_v197 : Ref sig .tc := ⟨.hbm, 400, rfl⟩
abbrev main_cst_44 : Ref sig .tc := ⟨.hbm, 401, rfl⟩
abbrev main_v198 : Ref sig .tc := ⟨.hbm, 402, rfl⟩
abbrev main_cst_45 : Ref sig .tc := ⟨.hbm, 403, rfl⟩
abbrev main_v199 : Ref sig .tc := ⟨.hbm, 404, rfl⟩
abbrev main_v200 : Ref sig .tc := ⟨.hbm, 405, rfl⟩
abbrev main_v201 : Ref sig .tc := ⟨.hbm, 406, rfl⟩
abbrev main_cst_46 : Ref sig .tc := ⟨.hbm, 407, rfl⟩
abbrev main_v202 : Ref sig .tc := ⟨.hbm, 408, rfl⟩
abbrev main_cst_47 : Ref sig .tc := ⟨.hbm, 409, rfl⟩
abbrev main_v203 : Ref sig .tc := ⟨.hbm, 410, rfl⟩
abbrev main_cst_48 : Ref sig .tc := ⟨.hbm, 411, rfl⟩
abbrev main_v204 : Ref sig .tc := ⟨.hbm, 412, rfl⟩
abbrev main_v205 : Ref sig .tc := ⟨.hbm, 413, rfl⟩
abbrev main_v206 : Ref sig .tc := ⟨.hbm, 414, rfl⟩
abbrev main_v207 : Ref sig .tc := ⟨.hbm, 415, rfl⟩
abbrev main_v208 : Ref sig .tc := ⟨.hbm, 416, rfl⟩
abbrev main_v209 : Ref sig .tc := ⟨.hbm, 417, rfl⟩
abbrev main_v210 : Ref sig .tc := ⟨.hbm, 418, rfl⟩
abbrev main_v211 : Ref sig .tc := ⟨.hbm, 419, rfl⟩
abbrev main_v212 : Ref sig .tc := ⟨.hbm, 420, rfl⟩
abbrev main_v213 : Ref sig .tc := ⟨.hbm, 421, rfl⟩
abbrev main_v214 : Ref sig .tc := ⟨.hbm, 422, rfl⟩
abbrev main_cst_49 : Ref sig .tc := ⟨.hbm, 423, rfl⟩
abbrev main_v215 : Ref sig .tc := ⟨.hbm, 424, rfl⟩
abbrev main_v216 : Ref sig .tc := ⟨.hbm, 425, rfl⟩
abbrev main_cst_50 : Ref sig .tc := ⟨.hbm, 426, rfl⟩
abbrev main_v217 : Ref sig .tc := ⟨.hbm, 427, rfl⟩
abbrev main_v218 : Ref sig .tc := ⟨.hbm, 428, rfl⟩
abbrev main_v219 : Ref sig .tc := ⟨.hbm, 429, rfl⟩
abbrev main_v220 : Ref sig .tc := ⟨.hbm, 430, rfl⟩
abbrev main_v221 : Ref sig .tc := ⟨.hbm, 431, rfl⟩
abbrev main_v222 : Ref sig .tc := ⟨.hbm, 432, rfl⟩
abbrev main_v223 : Ref sig .tc := ⟨.hbm, 433, rfl⟩
abbrev main_cst_51 : Ref sig .tc := ⟨.hbm, 434, rfl⟩
abbrev main_v224 : Ref sig .tc := ⟨.hbm, 435, rfl⟩
abbrev main_v225 : Ref sig .tc := ⟨.hbm, 436, rfl⟩
abbrev main_v226 : Ref sig .tc := ⟨.hbm, 437, rfl⟩
abbrev main_v227 : Ref sig .tc := ⟨.hbm, 438, rfl⟩
abbrev main_call12_v0 : Ref sig .tc := ⟨.hbm, 439, rfl⟩
abbrev main_call12_cst : Ref sig .tc := ⟨.hbm, 440, rfl⟩
abbrev main_call12_c : Ref sig .tc := ⟨.hbm, 441, rfl⟩
abbrev main_call12_v1_0 : Ref sig .tc := ⟨.hbm, 442, rfl⟩
abbrev main_v228 : Ref sig .tc := ⟨.hbm, 443, rfl⟩
abbrev main_call13_c : Ref sig .tc := ⟨.hbm, 444, rfl⟩
abbrev main_call13_v0 : Ref sig .tc := ⟨.hbm, 445, rfl⟩
abbrev main_call13_v1 : Ref sig .tc := ⟨.hbm, 446, rfl⟩
abbrev main_call13_c_0 : Ref sig .tc := ⟨.hbm, 447, rfl⟩
abbrev main_call13_v2 : Ref sig .tc := ⟨.hbm, 448, rfl⟩
abbrev main_call13_v3 : Ref sig .tc := ⟨.hbm, 449, rfl⟩
abbrev main_call13_v4 : Ref sig .tc := ⟨.hbm, 450, rfl⟩
abbrev main_call13_v5 : Ref sig .tc := ⟨.hbm, 451, rfl⟩
abbrev main_call13_c_1 : Ref sig .tc := ⟨.hbm, 452, rfl⟩
abbrev main_call13_c_2 : Ref sig .tc := ⟨.hbm, 453, rfl⟩
abbrev main_call13_v6 : Ref sig .tc := ⟨.hbm, 454, rfl⟩
abbrev main_call13_v7 : Ref sig .tc := ⟨.hbm, 455, rfl⟩
abbrev main_call13_v8 : Ref sig .tc := ⟨.hbm, 456, rfl⟩
abbrev main_call13_v9 : Ref sig .tc := ⟨.hbm, 457, rfl⟩
abbrev main_call13_v10 : Ref sig .tc := ⟨.hbm, 458, rfl⟩
abbrev main_call13_v11 : Ref sig .tc := ⟨.hbm, 459, rfl⟩
abbrev main_call13_c_3 : Ref sig .tc := ⟨.hbm, 460, rfl⟩
abbrev main_call13_v12 : Ref sig .tc := ⟨.hbm, 461, rfl⟩
abbrev main_call13_v13 : Ref sig .tc := ⟨.hbm, 462, rfl⟩
abbrev main_call13_v14 : Ref sig .tc := ⟨.hbm, 463, rfl⟩
abbrev main_call13_cst : Ref sig .tc := ⟨.hbm, 464, rfl⟩
abbrev main_call13_v15 : Ref sig .tc := ⟨.hbm, 465, rfl⟩
abbrev main_v229 : Ref sig .tc := ⟨.hbm, 466, rfl⟩
abbrev main_v230 : Ref sig .tc := ⟨.hbm, 467, rfl⟩
abbrev main_v231 : Ref sig .tc := ⟨.hbm, 468, rfl⟩
abbrev main_v232 : Ref sig .tc := ⟨.hbm, 469, rfl⟩
abbrev main_cst_52 : Ref sig .tc := ⟨.hbm, 470, rfl⟩
abbrev main_v233 : Ref sig .tc := ⟨.hbm, 471, rfl⟩
abbrev main_cst_53 : Ref sig .tc := ⟨.hbm, 472, rfl⟩
abbrev main_v234 : Ref sig .tc := ⟨.hbm, 473, rfl⟩
abbrev main_v235 : Ref sig .tc := ⟨.hbm, 474, rfl⟩
abbrev main_v236 : Ref sig .tc := ⟨.hbm, 475, rfl⟩
abbrev main_cst_54 : Ref sig .tc := ⟨.hbm, 476, rfl⟩
abbrev main_v237 : Ref sig .tc := ⟨.hbm, 477, rfl⟩
abbrev main_cst_55 : Ref sig .tc := ⟨.hbm, 478, rfl⟩
abbrev main_v238 : Ref sig .tc := ⟨.hbm, 479, rfl⟩
abbrev main_cst_56 : Ref sig .tc := ⟨.hbm, 480, rfl⟩
abbrev main_v239 : Ref sig .tc := ⟨.hbm, 481, rfl⟩
abbrev main_v240 : Ref sig .tc := ⟨.hbm, 482, rfl⟩
abbrev main_v241 : Ref sig .tc := ⟨.hbm, 483, rfl⟩
abbrev main_v242 : Ref sig .tc := ⟨.hbm, 484, rfl⟩
abbrev main_v243 : Ref sig .tc := ⟨.hbm, 485, rfl⟩
abbrev main_v244 : Ref sig .tc := ⟨.hbm, 486, rfl⟩
abbrev main_v245 : Ref sig .tc := ⟨.hbm, 487, rfl⟩
abbrev main_v246 : Ref sig .tc := ⟨.hbm, 488, rfl⟩
abbrev main_v247 : Ref sig .tc := ⟨.hbm, 489, rfl⟩
abbrev main_v248 : Ref sig .tc := ⟨.hbm, 490, rfl⟩
abbrev main_v249 : Ref sig .tc := ⟨.hbm, 491, rfl⟩
abbrev main_cst_57 : Ref sig .tc := ⟨.hbm, 492, rfl⟩
abbrev main_v250 : Ref sig .tc := ⟨.hbm, 493, rfl⟩
abbrev main_v251 : Ref sig .tc := ⟨.hbm, 494, rfl⟩
abbrev main_cst_58 : Ref sig .tc := ⟨.hbm, 495, rfl⟩
abbrev main_v252 : Ref sig .tc := ⟨.hbm, 496, rfl⟩
abbrev main_v253 : Ref sig .tc := ⟨.hbm, 497, rfl⟩
abbrev main_v254 : Ref sig .tc := ⟨.hbm, 498, rfl⟩
abbrev main_v255 : Ref sig .tc := ⟨.hbm, 499, rfl⟩
abbrev main_v256 : Ref sig .tc := ⟨.hbm, 500, rfl⟩
abbrev main_v257 : Ref sig .tc := ⟨.hbm, 501, rfl⟩
abbrev main_v258 : Ref sig .tc := ⟨.hbm, 502, rfl⟩
abbrev main_cst_59 : Ref sig .tc := ⟨.hbm, 503, rfl⟩
abbrev main_v259 : Ref sig .tc := ⟨.hbm, 504, rfl⟩
abbrev main_v260 : Ref sig .tc := ⟨.hbm, 505, rfl⟩
abbrev main_v261 : Ref sig .tc := ⟨.hbm, 506, rfl⟩
abbrev main_v262 : Ref sig .tc := ⟨.hbm, 507, rfl⟩
abbrev main_call14_v0 : Ref sig .tc := ⟨.hbm, 508, rfl⟩
abbrev main_call14_cst : Ref sig .tc := ⟨.hbm, 509, rfl⟩
abbrev main_call14_c : Ref sig .tc := ⟨.hbm, 510, rfl⟩
abbrev main_call14_v1_0 : Ref sig .tc := ⟨.hbm, 511, rfl⟩
abbrev main_v263 : Ref sig .tc := ⟨.hbm, 512, rfl⟩
abbrev main_call15_c : Ref sig .tc := ⟨.hbm, 513, rfl⟩
abbrev main_call15_v0 : Ref sig .tc := ⟨.hbm, 514, rfl⟩
abbrev main_call15_v1 : Ref sig .tc := ⟨.hbm, 515, rfl⟩
abbrev main_call15_c_0 : Ref sig .tc := ⟨.hbm, 516, rfl⟩
abbrev main_call15_v2 : Ref sig .tc := ⟨.hbm, 517, rfl⟩
abbrev main_call15_v3 : Ref sig .tc := ⟨.hbm, 518, rfl⟩
abbrev main_call15_v4 : Ref sig .tc := ⟨.hbm, 519, rfl⟩
abbrev main_call15_v5 : Ref sig .tc := ⟨.hbm, 520, rfl⟩
abbrev main_call15_c_1 : Ref sig .tc := ⟨.hbm, 521, rfl⟩
abbrev main_call15_c_2 : Ref sig .tc := ⟨.hbm, 522, rfl⟩
abbrev main_call15_v6 : Ref sig .tc := ⟨.hbm, 523, rfl⟩
abbrev main_call15_v7 : Ref sig .tc := ⟨.hbm, 524, rfl⟩
abbrev main_call15_v8 : Ref sig .tc := ⟨.hbm, 525, rfl⟩
abbrev main_call15_v9 : Ref sig .tc := ⟨.hbm, 526, rfl⟩
abbrev main_call15_v10 : Ref sig .tc := ⟨.hbm, 527, rfl⟩
abbrev main_call15_v11 : Ref sig .tc := ⟨.hbm, 528, rfl⟩
abbrev main_call15_c_3 : Ref sig .tc := ⟨.hbm, 529, rfl⟩
abbrev main_call15_v12 : Ref sig .tc := ⟨.hbm, 530, rfl⟩
abbrev main_call15_v13 : Ref sig .tc := ⟨.hbm, 531, rfl⟩
abbrev main_call15_v14 : Ref sig .tc := ⟨.hbm, 532, rfl⟩
abbrev main_call15_cst : Ref sig .tc := ⟨.hbm, 533, rfl⟩
abbrev main_call15_v15 : Ref sig .tc := ⟨.hbm, 534, rfl⟩
abbrev main_v264 : Ref sig .tc := ⟨.hbm, 535, rfl⟩
abbrev main_v265 : Ref sig .tc := ⟨.hbm, 536, rfl⟩
abbrev main_v266 : Ref sig .tc := ⟨.hbm, 537, rfl⟩
abbrev main_v267 : Ref sig .tc := ⟨.hbm, 538, rfl⟩
abbrev main_cst_60 : Ref sig .tc := ⟨.hbm, 539, rfl⟩
abbrev main_v268 : Ref sig .tc := ⟨.hbm, 540, rfl⟩
abbrev main_cst_61 : Ref sig .tc := ⟨.hbm, 541, rfl⟩
abbrev main_v269 : Ref sig .tc := ⟨.hbm, 542, rfl⟩
abbrev main_v270 : Ref sig .tc := ⟨.hbm, 543, rfl⟩
abbrev main_v271 : Ref sig .tc := ⟨.hbm, 544, rfl⟩
abbrev main_cst_62 : Ref sig .tc := ⟨.hbm, 545, rfl⟩
abbrev main_v272 : Ref sig .tc := ⟨.hbm, 546, rfl⟩
abbrev main_cst_63 : Ref sig .tc := ⟨.hbm, 547, rfl⟩
abbrev main_v273 : Ref sig .tc := ⟨.hbm, 548, rfl⟩
abbrev main_cst_64 : Ref sig .tc := ⟨.hbm, 549, rfl⟩
abbrev main_v274 : Ref sig .tc := ⟨.hbm, 550, rfl⟩
abbrev main_v275 : Ref sig .tc := ⟨.hbm, 551, rfl⟩
abbrev main_v276 : Ref sig .tc := ⟨.hbm, 552, rfl⟩
abbrev main_v277 : Ref sig .tc := ⟨.hbm, 553, rfl⟩
abbrev main_v278 : Ref sig .tc := ⟨.hbm, 554, rfl⟩
abbrev main_v279 : Ref sig .tc := ⟨.hbm, 555, rfl⟩
abbrev main_v280 : Ref sig .tc := ⟨.hbm, 556, rfl⟩

abbrev nD : Nat := 1
abbrev τ : Topo := Topo.v7x

variable {F : FTy → Type} [FloatOps F]
-- ==== Proof.Ref.Ops.lean ====
/- The reference's host operations as one list, read off its printed program, and that list cut into the eight stages. -/
module

public import proofs.«01_k».proof.Proof.Gen.ReferenceIdeal
public import Idealize.ShloMosaic.Lib.StableHlo.RunHlo
public import Idealize.ShloMosaic.Lib.Pipeline.Frame

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The programs of @main's windows. -/
abbrev Line (F : FTy → Type) [FloatOps F] :=
  Prog (TpuEff nD τ sig (Elt F) (Pipeline.Sig Λ₀ (Fin 0) fun p => (pcfgs (F := F) p).Adm) .tc) PUnit

/-- `p` is the straight line of the operations `l`, all of them on the TensorCore's buffers. -/
def Runs (p : Line F) (l : List (HloOp τ sig (Elt F))) : Prop := IsSeq p l ∧ ∀ o ∈ l, o.bufs ⊆ tcRefs τ sig

/-- An empty line runs no operation. -/
theorem Runs.nil : Runs (pure ⟨⟩ : Line F) [] := ⟨IsSeq.nil, fun _ h => absurd h List.not_mem_nil⟩

/-- One operation before a straight line. -/
theorem Runs.cons {op : HloOp τ sig (Elt F)} {k : Line F} {l : List (HloOp τ sig (Elt F))} (hs : op.bufs ⊆ tcRefs τ sig)
    (h : Runs k l) : Runs ((hlo rfl op fun _ => .ret (⟨⟩ : PUnit)) >>= fun _ => k) (op :: l) :=
  ⟨IsSeq.cons h.1, by simpa using ⟨hs, h.2⟩⟩

/-- A straight line run before another is the straight line of both lists. -/
theorem Runs.append {p q : Line F} {l₁ l₂ : List (HloOp τ sig (Elt F))} (h₁ : Runs p l₁) (h₂ : Runs q l₂) :
    Runs (p >>= fun _ => q) (l₁ ++ l₂) := by
  refine ⟨?_, fun o ho => (List.mem_append.mp ho).elim (h₁.2 o) (h₂.2 o)⟩
  obtain ⟨h₁, -⟩ := h₁; obtain ⟨h₂, -⟩ := h₂
  unfold IsSeq at *; subst h₁ h₂; exact (seq_append l₁ l₂).symm

/-- One host operation is the straight line of itself. -/
theorem Runs.one {op : HloOp τ sig (Elt F)} (hs : op.bufs ⊆ tcRefs τ sig) :
    Runs (hlo rfl op fun _ => .ret (⟨⟩ : PUnit) : Line F) [op] := ⟨rfl, by simpa using hs⟩

/-- The operations of one call of @argmin. -/
def argminOps (a : TRef sig ⟨S65536x8192, .f32⟩) (φ : fn_argmin.Bufs) :
    {l : List (HloOp τ sig (Elt F)) // Runs (fn_argmin.body (F := F) a φ) l} :=
  by apply Subtype.mk; unfold fn_argmin.body; repeat (first | exact Runs.nil | (apply Runs.cons; on_goal 1 => simp only [unary_bufs_sub, binary_bufs_sub, nullary_bufs_sub, reshape_bufs_sub, ternary_bufs_sub, quaternary_bufs_sub]))

/-- The operations of one call of @_take. -/
def takeOps (a : TRef sig ⟨S8192x64, .f32⟩) (b : TRef sig ⟨S65536, .i32⟩) (φ : fn_take.Bufs) :
    {l : List (HloOp τ sig (Elt F)) // Runs (fn_take.body (F := F) a b φ) l} :=
  by
    apply Subtype.mk
    unfold fn_take.body fn_where.body
    repeat (first | exact Runs.nil | (apply Runs.cons; on_goal 1 => simp only [unary_bufs_sub, binary_bufs_sub, nullary_bufs_sub, reshape_bufs_sub, ternary_bufs_sub, quaternary_bufs_sub]) | (refine Runs.append (l₁ := [_]) (Runs.one ?_) ?_; on_goal 1 => simp only [unary_bufs_sub, binary_bufs_sub, nullary_bufs_sub, reshape_bufs_sub, ternary_bufs_sub, quaternary_bufs_sub]))

/-- The operations of @main's window 0. -/
def part0Ops : {l : List (HloOp τ sig (Elt F)) // ∀ d, Runs (main_part0 (F := F) d) l} := by
  apply Subtype.mk
  intro d
  unfold main_part0
  repeat (first | exact Runs.nil | (apply Runs.one; on_goal 1 => simp only [unary_bufs_sub, binary_bufs_sub, nullary_bufs_sub, reshape_bufs_sub, ternary_bufs_sub, quaternary_bufs_sub]) | (apply Runs.cons; on_goal 1 => simp only [unary_bufs_sub, binary_bufs_sub, nullary_bufs_sub, reshape_bufs_sub, ternary_bufs_sub, quaternary_bufs_sub]) | refine Runs.append (argminOps _ _).2 ?_ | refine Runs.append (takeOps _ _ _).2 ?_)

/-- The operations of @main's window 1. -/
def part1Ops : {l : List (HloOp τ sig (Elt F)) // ∀ d, Runs (main_part1 (F := F) d) l} := by
  apply Subtype.mk
  intro d
  unfold main_part1
  repeat (first | exact Runs.nil | (apply Runs.one; on_goal 1 => simp only [unary_bufs_sub, binary_bufs_sub, nullary_bufs_sub, reshape_bufs_sub, ternary_bufs_sub, quaternary_bufs_sub]) | (apply Runs.cons; on_goal 1 => simp only [unary_bufs_sub, binary_bufs_sub, nullary_bufs_sub, reshape_bufs_sub, ternary_bufs_sub, quaternary_bufs_sub]) | refine Runs.append (argminOps _ _).2 ?_ | refine Runs.append (takeOps _ _ _).2 ?_)

/-- The operations of @main's window 2. -/
def part2Ops : {l : List (HloOp τ sig (Elt F)) // ∀ d, Runs (main_part2 (F := F) d) l} := by
  apply Subtype.mk
  intro d
  unfold main_part2
  repeat (first | exact Runs.nil | (apply Runs.one; on_goal 1 => simp only [unary_bufs_sub, binary_bufs_sub, nullary_bufs_sub, reshape_bufs_sub, ternary_bufs_sub, quaternary_bufs_sub]) | (apply Runs.cons; on_goal 1 => simp only [unary_bufs_sub, binary_bufs_sub, nullary_bufs_sub, reshape_bufs_sub, ternary_bufs_sub, quaternary_bufs_sub]) | refine Runs.append (argminOps _ _).2 ?_ | refine Runs.append (takeOps _ _ _).2 ?_)

/-- The operations of @main's window 3. -/
def part3Ops : {l : List (HloOp τ sig (Elt F)) // ∀ d, Runs (main_part3 (F := F) d) l} := by
  apply Subtype.mk
  intro d
  unfold main_part3
  repeat (first | exact Runs.nil | (apply Runs.one; on_goal 1 => simp only [unary_bufs_sub, binary_bufs_sub, nullary_bufs_sub, reshape_bufs_sub, ternary_bufs_sub, quaternary_bufs_sub]) | (apply Runs.cons; on_goal 1 => simp only [unary_bufs_sub, binary_bufs_sub, nullary_bufs_sub, reshape_bufs_sub, ternary_bufs_sub, quaternary_bufs_sub]) | refine Runs.append (argminOps _ _).2 ?_ | refine Runs.append (takeOps _ _ _).2 ?_)

/-- The operations of @main's window 4. -/
def part4Ops : {l : List (HloOp τ sig (Elt F)) // ∀ d, Runs (main_part4 (F := F) d) l} := by
  apply Subtype.mk
  intro d
  unfold main_part4
  repeat (first | exact Runs.nil | (apply Runs.one; on_goal 1 => simp only [unary_bufs_sub, binary_bufs_sub, nullary_bufs_sub, reshape_bufs_sub, ternary_bufs_sub, quaternary_bufs_sub]) | (apply Runs.cons; on_goal 1 => simp only [unary_bufs_sub, binary_bufs_sub, nullary_bufs_sub, reshape_bufs_sub, ternary_bufs_sub, quaternary_bufs_sub]) | refine Runs.append (argminOps _ _).2 ?_ | refine Runs.append (takeOps _ _ _).2 ?_)

/-- The operations of @main's window 5. -/
def part5Ops : {l : List (HloOp τ sig (Elt F)) // ∀ d, Runs (main_part5 (F := F) d) l} := by
  apply Subtype.mk
  intro d
  unfold main_part5
  repeat (first | exact Runs.nil | (apply Runs.one; on_goal 1 => simp only [unary_bufs_sub, binary_bufs_sub, nullary_bufs_sub, reshape_bufs_sub, ternary_bufs_sub, quaternary_bufs_sub]) | (apply Runs.cons; on_goal 1 => simp only [unary_bufs_sub, binary_bufs_sub, nullary_bufs_sub, reshape_bufs_sub, ternary_bufs_sub, quaternary_bufs_sub]) | refine Runs.append (argminOps _ _).2 ?_ | refine Runs.append (takeOps _ _ _).2 ?_)

/-- @main's operations, in order. -/
def ops : List (HloOp τ sig (Elt F)) :=
  part0Ops.1 ++ (part1Ops.1 ++ (part2Ops.1 ++ (part3Ops.1 ++ (part4Ops.1 ++ part5Ops.1))))

/-- The program runs the operations in order. -/
theorem main_runs (d : Dev nD) : Runs (main (F := F) d) ops := by
  unfold main ops
  exact Runs.append (part0Ops.2 d) (Runs.append (part1Ops.2 d) (Runs.append (part2Ops.2 d)
    (Runs.append (part3Ops.2 d) (Runs.append (part4Ops.2 d) (part5Ops.2 d)))))

/-- @main is the straight line of its operations. -/
theorem main_eq (d : Dev nD) : IsSeq (main (F := F) d) ops := (main_runs d).1

/-- Every operation's buffers are the TensorCore's. -/
theorem ops_sub (d : Dev nD) : (ops : List (HloOp τ sig (Elt F))).Forall fun op => op.bufs ⊆ tcRefs τ sig :=
  List.forall_iff_forall_mem.mpr (main_runs d).2

/-- There are 555 operations. -/
theorem ops_length : (ops (F := F)).length = 555 := rfl

end Cert.ReferenceIdeal.Value

end
-- ==== Proof.Ref.Stage.lean ====
/- One stage of the reference as a function of arrays, and what each stage's operations leave in the buffers that the next stage reads. -/
module

public import proofs.«01_k».proof.Proof.Ref.Ops
public import Idealize.ShloMosaic.Lib.StableHlo.RunRead
import Mathlib.Tactic.IntervalCases

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- One codebook out of the stack, by the first index's offset. -/
def codebook (cb : FVec F S8x8192x64 .f32) (k : ℕ) (hk : S8x8192x64.Slices ![k, 0, 0] S1x8192x64) : FVec F S8192x64 .f32 :=
  shapeCast S8192x64 (extractStridedSlice S1x8192x64 ![k, 0, 0] cb hk) shapeCasts_S1x8192x64_S8192x64

/-- The squared distances of every row to every code, as the reference spells them. -/
def dists (r : FVec F S65536x64 .f32) (e : FVec F S8192x64 .f32) : FVec F S65536x8192 .f32 :=
  addf
    (subf
      (broadcastInDim S65536x8192 ![0, 1] bcast_S65536x1_S65536x8192_0_1 (broadcastInDim S65536x1 ![0] bcast_S65536_S65536x1_0
        (Host.reduceAdd (mulf r r) (constant S_ .f32 0x00000000#32) reducesTo_S65536x64_S65536_d1 h_S_)))
      (Host.dotGeneral dot_S65536x64_S64x8192_S65536x8192_1_0_0_1_n_n none
        (mulf (broadcastInDim S65536x64 ![] bcast_S_S65536x64 (constant S_ .f32 0x40000000#32)) r)
        (transpose S64x8192 [1, 0] e transposes_S8192x64_S64x8192_1_0)))
    (broadcastInDim S65536x8192 ![0, 1] bcast_S1x8192_S65536x8192_0_1 (broadcastInDim S1x8192 ![1] bcast_S8192_S1x8192_1
      (Host.reduceAdd (mulf e e) (constant S_ .f32 0x00000000#32) reducesTo_S8192x64_S8192_d1 h_S_)))

/-- Each row's nearest code: the argmin of its distances. -/
def nearest (d : FVec F S65536x8192 .f32) : IVec S65536 32 := fun j =>
  (Host.argReduce reducer_argmin_f32_i32 d (iotaInDim S65536x8192 32 1) (constant S_ .f32 0x7F800000#32) (constantI S_ 32 0#32)
    reducesTo_S65536x8192_S65536_d1 h_S_ j).2

/-- The index that the row lookup uses: a negative one counted from the end. -/
def wrapped (i : IVec S65536 32) : IVec S65536x1 32 :=
  broadcastInDim S65536x1 ![0] bcast_S65536_S65536x1_0
    (select (cmpi .slt i (broadcastInDim S65536 ![] bcast_S_S65536 (constantI S_ 32 0#32)))
      (addi i (broadcastInDim S65536 ![] bcast_S_S65536 (constantI S_ 32 8192#32))) i)

/-- Which looked-up indices lie inside the codebook. -/
def inside (w : IVec S65536x1 32) : IVec S65536 1 :=
  Host.reduce IntOp.andi
    (andi (cmpi .sge w (broadcastInDim S65536x1 ![] bcast_S_S65536x1 (constantI S_ 32 0#32)))
      (cmpi .sle w (broadcastInDim S65536x1 ![0, 1] bcast_S1x1_S65536x1_0_1
        (broadcastInDim S1x1 ![1] bcast_S1_S1x1_1 (constantI S1 32 8191#32)))))
    (constantI S_ 1 1#1) reducesTo_S65536x1_S65536_d1 h_S_

/-- The rows of the codebook at the given indices. -/
def lookup (e : FVec F S8192x64 .f32) (i : IVec S65536 32) : FVec F S65536x64 .f32 :=
  select (broadcastInDim S65536x64 ![0] bcast_S65536_S65536x64_0 (inside (wrapped i)))
    (Host.gather gather_S8192x64_S65536x1_S65536x64_1_0_n_n_0_1_164 e (wrapped i))
    (broadcastInDim S65536x64 ![] bcast_S_S65536x64 (constant S_ .f32 0x7FC00000#32))

/-- The quantized residual of one stage. -/
def quant (r : FVec F S16x4096x64 .f32) (e : FVec F S8192x64 .f32) : FVec F S16x4096x64 .f32 :=
  shapeCast S16x4096x64
    (lookup e (nearest (dists (shapeCast S65536x64 r shapeCasts_S16x4096x64_S65536x64) e))) shapeCasts_S65536x64_S16x4096x64

/-- The straight-through form of the quantized residual: the residual plus the difference. -/
def through (r : FVec F S16x4096x64 .f32) (e : FVec F S8192x64 .f32) : FVec F S16x4096x64 .f32 :=
  addf r (subf (quant r e) r)

/-- The mean square of the difference between the quantized residual and the residual. -/
def meanSq (r : FVec F S16x4096x64 .f32) (e : FVec F S8192x64 .f32) : FVec F S_ .f32 :=
  Host.divf (Host.reduceAdd (mulf (subf (quant r e) r) (subf (quant r e) r)) (constant S_ .f32 0x00000000#32)
    reducesTo_S16x4096x64_S_d0_1_2 h_S_) (constant S_ .f32 0x4A800000#32)

/-- One stage's loss: the codebook term plus a quarter of the commitment term. -/
def stageLoss (r : FVec F S16x4096x64 .f32) (e : FVec F S8192x64 .f32) : FVec F S_ .f32 :=
  addf (meanSq r e) (mulf (constant S_ .f32 0x3E800000#32) (meanSq r e))

/-- The operations of stage `k` (the first stage also sets up the output and the loss). -/
def stageOps (F : FTy → Type) [FloatOps F] : ℕ → List (HloOp τ sig (Elt F))
  | 0 => ops.take 72
  | k + 1 => (ops.drop (72 + 69 * k)).take 69

/-- What a stage hands on: the residual, the output so far, the loss so far, and the codebooks. -/
structure St (F : FTy → Type) where
  res : FVec F S16x4096x64 .f32
  out : FVec F S16x4096x64 .f32
  loss : FVec F S_ .f32
  cb : FVec F S8x8192x64 .f32

/-- Every stage's codebook lies in the stack. -/
theorem slices (k : Fin 8) : S8x8192x64.Slices ![k.val, 0, 0] S1x8192x64 := by revert k; decide

/-- A stage with codebook `e` on what the earlier stages hand on. -/
def step (e : FVec F S8192x64 .f32) (s : St F) : St F :=
  ⟨subf s.res (through s.res e), addf s.out (through s.res e), addf s.loss (stageLoss s.res e), s.cb⟩

/-- Where the contents of the device hold what the first `k` stages hand on. -/
def stateAt : ℕ → Valuation τ sig (Elt F) → St F
  | 1, V => ⟨V (Proc.devRef .tc main_v34), V (Proc.devRef .tc main_v33), V (Proc.devRef .tc main_v35), V (Proc.devRef .tc main_arg1)⟩
  | 2, V => ⟨V (Proc.devRef .tc main_v69), V (Proc.devRef .tc main_v68), V (Proc.devRef .tc main_v70), V (Proc.devRef .tc main_arg1)⟩
  | 3, V => ⟨V (Proc.devRef .tc main_v104), V (Proc.devRef .tc main_v103), V (Proc.devRef .tc main_v105), V (Proc.devRef .tc main_arg1)⟩
  | 4, V => ⟨V (Proc.devRef .tc main_v139), V (Proc.devRef .tc main_v138), V (Proc.devRef .tc main_v140), V (Proc.devRef .tc main_arg1)⟩
  | 5, V => ⟨V (Proc.devRef .tc main_v174), V (Proc.devRef .tc main_v173), V (Proc.devRef .tc main_v175), V (Proc.devRef .tc main_arg1)⟩
  | 6, V => ⟨V (Proc.devRef .tc main_v209), V (Proc.devRef .tc main_v208), V (Proc.devRef .tc main_v210), V (Proc.devRef .tc main_arg1)⟩
  | 7, V => ⟨V (Proc.devRef .tc main_v244), V (Proc.devRef .tc main_v243), V (Proc.devRef .tc main_v245), V (Proc.devRef .tc main_arg1)⟩
  | 8, V => ⟨V (Proc.devRef .tc main_v279), V (Proc.devRef .tc main_v278), V (Proc.devRef .tc main_v280), V (Proc.devRef .tc main_arg1)⟩
  | _, V => ⟨V (Proc.devRef .tc main_arg0), broadcastInDim S16x4096x64 ![] bcast_S_S16x4096x64 (constant S_ .f32 0x00000000#32),
      constant S_ .f32 0x00000000#32, V (Proc.devRef .tc main_arg1)⟩

set_option maxHeartbeats 4000000 in
/-- Each stage's operations do the stage. -/
theorem stage_step (k : ℕ) (h : k < 8) (V : Valuation τ sig (Elt F)) :
    stateAt (k + 1) (after (stageOps F k) V) = step (codebook (V (Proc.devRef .tc main_arg1)) k (slices ⟨k, h⟩)) (stateAt k V) := by
  interval_cases k
  all_goals
    refine (St.mk.injEq ..).mpr ⟨?_, ?_, ?_, ?_⟩
    all_goals
      after_reads_simp
      simp -implicitDefEqProofs -failIfUnchanged only [TRef.toBuf, TRef.ofBuf, cast_cast, cast_eq]
      rfl

end Cert.ReferenceIdeal.Value

end
-- ==== Proof.Ref.Run.lean ====
/- The reference's run: its eight stages, one after the other, from its arguments. -/
module

public import proofs.«01_k».proof.Proof.Ref.Stage
import Mathlib.Tactic.IntervalCases

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The first `n` stages over the codebooks `cb`, from what `s` hands on. -/
def stages (cb : FVec F S8x8192x64 .f32) (s : St F) : ℕ → St F
  | 0 => s
  | k + 1 => if h : k < 8 then step (codebook cb k (slices ⟨k, h⟩)) (stages cb s k) else stages cb s k

/-- The operations of the first `n` stages. -/
def upTo (F : FTy → Type) [FloatOps F] : ℕ → List (HloOp τ sig (Elt F))
  | 0 => []
  | k + 1 => upTo F k ++ stageOps F k

/-- The first `n` stages' operations do those stages. -/
theorem stages_upTo (V : Valuation τ sig (Elt F)) : ∀ n ≤ 8,
    stateAt n (after (upTo F n) V) = stages (V (Proc.devRef .tc main_arg1)) (stateAt 0 V) n
      ∧ after (upTo F n) V (Proc.devRef .tc main_arg1) = V (Proc.devRef .tc main_arg1)
  | 0, _ => ⟨rfl, rfl⟩
  | k + 1, h => by
    obtain ⟨h₁, h₂⟩ := stages_upTo V k (by omega)
    have hk : k < 8 := by omega
    have hcb : ∀ (j : ℕ) (_ : j ≤ 8) (W : Valuation τ sig (Elt F)), (stateAt j W).cb = W (Proc.devRef .tc main_arg1) := by
      intro j hj W
      interval_cases j <;> rfl
    have e : stateAt (k + 1) (after (upTo F (k + 1)) V) = stages (V (Proc.devRef .tc main_arg1)) (stateAt 0 V) (k + 1) := by
      rw [upTo, after_append, stage_step k hk, h₁, h₂, stages, dif_pos hk]
    refine ⟨e, ?_⟩
    have e' := congrArg St.cb (stage_step k hk (after (upTo F k) V))
    rw [hcb _ h] at e'
    rw [upTo, after_append, e', step, hcb k (by omega), h₂]

/-- The operations are those of the eight stages. -/
theorem ops_eq : (ops : List (HloOp τ sig (Elt F))) = upTo F 8 := rfl

/-- The reference has no buffer of a region. -/
theorem scopedRefs_eq : (Finset.univ.filter fun b : Ref sig .tc => b.isScoped) = ∅ := by decide
/-- The reference has no counter of a region. -/
theorem scopedSems_eq : (Finset.univ.filter fun sm : SemLoc sig => sm.isScoped .tc) = ∅ := by decide

/-- Every operation determines its result. -/
theorem ops_fresh : ∀ op ∈ (ops : List (HloOp τ sig (Elt F))), op.fresh = ∅ :=
  List.forall_iff_forall_mem.mp (forall_fresh_of_map rfl)

/-- No operation writes the first argument. -/
theorem after_arg0 (V : Valuation τ sig (Elt F)) : after ops V (Proc.devRef .tc main_arg0) = V (Proc.devRef .tc main_arg0) := by
  after_reads_simp

/-- On every device, from any memory with zero counters: every weakly fair execution of @main terminates with the output and the
    loss that the eight stages hand on, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v278)
          = (stages (m ((c.tc : Thread nD τ).loc main_arg1)) (stateAt 0 (launchContents m c)) 8).out
      ∧ r.2.mem ((c.tc : Thread nD τ).loc main_v280)
          = (stages (m ((c.tc : Thread nD τ).loc main_arg1)) (stateAt 0 (launchContents m c)) 8).loss
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      have hs := stages_upTo (launchContents m c) 8 le_rfl
      rw [← ops_eq] at hs
      exact ⟨(h c main_v278).trans (congrArg St.out hs.1), (h c main_v280).trans (congrArg St.loss hs.1),
        (h c main_arg0).trans (after_arg0 _), (h c main_arg1).trans hs.2⟩)
    (run_seq scopedRefs_eq scopedSems_eq defs main (fun _ => ops) main_eq ops_sub m ρ fun _ => ops_fresh)

end Cert.ReferenceIdeal.Value

end
-- ==== Proof.Rows.lean ====
/- The eight stages on one row of real numbers: nearest code, residual, quantized row, squared error. Both programs are read back to these. -/
module

public import Idealize.ShloMosaic.Lib.Pointwise
public import Idealize.ShloMosaic.Lib.IdealHost

@[expose] public section

noncomputable section

namespace Cert.Rows

open Idealize.ShloMosaic

/-! ## The nearest code -/

/-- A row of 64 numbers. -/
abbrev Row := Fin 64 → ℝ

/-- A codebook: 8192 rows. -/
abbrev Book := Fin 8192 → Row

/-- `k` is the first place where `d` is smallest. -/
def Least (d : Fin 8192 → ℝ) (k : Fin 8192) : Prop := ∀ k', d k < d k' ∨ (d k = d k' ∧ k ≤ k')

/-- There is such a place. -/
theorem exists_least (d : Fin 8192 → ℝ) : ∃ k, Least d k := by
  obtain ⟨k, -, hk⟩ := Finset.exists_min_image Finset.univ (fun k => toLex (d k, k)) ⟨0, Finset.mem_univ _⟩
  exact ⟨k, fun k' => Prod.Lex.le_iff.mp (hk k' (Finset.mem_univ _))⟩

/-- The value at the first smallest place is at most every value. -/
theorem Least.le {d : Fin 8192 → ℝ} {k : Fin 8192} (h : Least d k) (k' : Fin 8192) : d k ≤ d k' := by
  rcases h k' with h | h
  · exact h.le
  · exact h.1.le

/-- The squared distance of `r` to code `k`, by the square's expansion. -/
def sqDist (r : Row) (E : Book) (k : Fin 8192) : ℝ := ∑ x, r x * r x - 2 * ∑ x, r x * E k x + ∑ x, E k x * E k x

/-- The code nearest to `r`, the first of several. -/
def code (r : Row) (E : Book) : Fin 8192 := (exists_least (sqDist r E)).choose

/-- The nearest code is the first smallest of the squared distances. -/
theorem code_least (r : Row) (E : Book) : Least (sqDist r E) (code r E) := (exists_least (sqDist r E)).choose_spec

/-! ## The stages -/

/-- The residual of the row `x` before stage `n`. -/
def resid (x : Row) (E : ℕ → Book) : ℕ → Row
  | 0 => x
  | n + 1 => fun j => resid x E n j - E n (code (resid x E n) (E n)) j

/-- Stage `n`'s quantized row. -/
def quant (x : Row) (E : ℕ → Book) (n : ℕ) : Row := E n (code (resid x E n) (E n))

/-- The sum of the quantized rows of the stages before `n`. -/
def total (x : Row) (E : ℕ → Book) : ℕ → Row
  | 0 => 0
  | n + 1 => fun j => total x E n j + quant x E n j

/-- Stage `n`'s squared error at place `j` of the row. -/
def sqErr (x : Row) (E : ℕ → Book) (n : ℕ) (j : Fin 64) : ℝ :=
  (quant x E n j - resid x E n j) * (quant x E n j - resid x E n j)

/-! ## Sums and folds -/

/-- A finite sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold with an operation that takes `v` over every value met, where `v` is met, is `v`. -/
theorem fold_eq {α : Type} {n : ℕ} (op : α → α → α) [Std.Commutative op] [Std.Associative op] (init v : α) (f : Fin n → α) (k : Fin n)
    (hk : f k = v) (hi : op v init = v) (h : ∀ x, op v (f x) = v) : Finset.fold op init f Finset.univ = v := by
  have key : ∀ s : Finset (Fin n), op v (Finset.fold op init f s) = v ∧ (k ∈ s → Finset.fold op init f s = v) := by
    intro s
    induction s using Finset.induction_on with
    | empty => exact ⟨by rw [Finset.fold_empty]; exact hi, fun h => absurd h (Finset.notMem_empty _)⟩
    | insert a s ha ih =>
      rw [Finset.fold_insert ha]
      refine ⟨by rw [← Std.Associative.assoc (op := op), h a, ih.1], fun hm => ?_⟩
      rcases Finset.mem_insert.mp hm with rfl | hm
      · rw [hk, ih.1]
      · rw [ih.2 hm, Std.Commutative.comm (op := op), h a]
  exact (key Finset.univ).2 (Finset.mem_univ _)

/-- A sum over `m` blocks of `n` consecutive places is the sum over all the places. -/
theorem sum_blocks (f : ℕ → ℝ) (n : ℕ) : ∀ m : ℕ, ∑ i ∈ Finset.range m, ∑ j ∈ Finset.range n, f (n * i + j) = ∑ k ∈ Finset.range (n * m), f k
  | 0 => by simp
  | m + 1 => by rw [Finset.sum_range_succ, sum_blocks f n m, Nat.mul_succ, Finset.sum_range_add]

/-- A sum over `m * n` places as a sum over `m` blocks of `n`. -/
theorem sum_rows (f : ℕ → ℝ) (m n N : ℕ) (hN : N = n * m) : ∑ p ∈ Finset.range N, f p = ∑ a : Fin m, ∑ b : Fin n, f (a.val * n + b.val) := by
  subst hN
  rw [← sum_blocks, Finset.sum_range]
  refine Finset.sum_congr rfl fun a _ => ?_
  rw [Finset.sum_range]
  simp only [mul_comm n]

/-! ## All the rows -/

/-- Stage `n`'s squared error over all the rows. -/
def err (X : ℕ → Row) (E : ℕ → Book) (n : ℕ) : ℝ := ∑ p ∈ Finset.range 65536, ∑ j, sqErr (X p) E n j

/-- The loss of the first `n` stages: five quarters of the mean squared error, summed over the stages. -/
def loss (X : ℕ → Row) (E : ℕ → Book) (n : ℕ) : ℝ := ∑ k ∈ Finset.range n, 5 / 4 * err X E k / 4194304

/-- The loss by summing the squared errors in 256 blocks of 256 rows, and the places and the stages last. -/
theorem loss_blocks (X : ℕ → Row) (E : ℕ → Book) :
    5 / 4 * (∑ k : Fin 8, ∑ j, ∑ t ∈ Finset.range 256, ∑ i : Fin 256, sqErr (X (256 * t + i.val)) E k.val j) * (1 / 4194304) = loss X E 8 := by
  have h : ∀ k : ℕ, ∑ j, ∑ t ∈ Finset.range 256, ∑ i : Fin 256, sqErr (X (256 * t + i.val)) E k j = err X E k := by
    intro k
    rw [err, sum_rows (fun p => ∑ j, sqErr (X p) E k j) 256 256 65536 (by norm_num), Finset.sum_comm, Finset.sum_range]
    refine Finset.sum_congr rfl fun t _ => ?_
    rw [Finset.sum_comm]
    simp only [mul_comm 256]
  simp only [h]
  rw [loss, Finset.sum_range, Finset.mul_sum, Finset.sum_mul]
  exact Finset.sum_congr rfl fun k _ => by ring

/-! ## The constants -/

/-- The word of 2. -/
theorem ofBits_two : Ideal.ofBits .f32 0x40000000#32 = ((2 : ℝ) : EReal) := by
  simp [Ideal.ofBits, Ideal.ieee, -EReal.coe_mul]; norm_num

/-- The word of infinity. -/
theorem ofBits_top : Ideal.ofBits .f32 0x7F800000#32 = ⊤ := by
  simp [Ideal.ofBits, Ideal.ieee, -EReal.coe_mul]

/-- The word of a quarter. -/
theorem ofBits_quarter : Ideal.ofBits .f32 0x3E800000#32 = ((1 / 4 : ℝ) : EReal) := by
  simp [Ideal.ofBits, Ideal.ieee, -EReal.coe_mul]; norm_num

/-- The word of five quarters. -/
theorem ofBits_five_quarters : Ideal.ofBits .f32 0x3FA00000#32 = ((5 / 4 : ℝ) : EReal) := by
  simp [Ideal.ofBits, Ideal.ieee, -EReal.coe_mul]; norm_num

/-- The word of the number of entries. -/
theorem ofBits_count : Ideal.ofBits .f32 0x4A800000#32 = ((4194304 : ℝ) : EReal) := by
  simp [Ideal.ofBits, Ideal.ieee, -EReal.coe_mul]; norm_num

end Cert.Rows
end
-- ==== Proof.Ref.Value.lean ====
/- The reference's stages on real inputs: each stage's arrays are the real rows of `Cert.Rows`. -/
module

public import proofs.«01_k».proof.Proof.Ref.Stage
public import proofs.«01_k».proof.Proof.Ref.Run
public import proofs.«01_k».proof.Proof.Rows
public import Idealize.ShloMosaic.Lib.Routing.Ops
public import Idealize.ShloMosaic.PureOps.Ideal.Laws

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-! ## The nearest code -/

/-- The argmin's comparison keeps the first of its two pairs when that has the smaller value, or the same value and the smaller place. -/
theorem reducer_eq (a b : EReal × BitVec 32) :
    reducer_argmin_f32_i32 (F := Ideal) a b = if a.1 < b.1 ∨ (a.1 = b.1 ∧ a.2.slt b.2 = true) then a else b := by
  obtain ⟨a1, a2⟩ := a
  obtain ⟨b1, b2⟩ := b
  simp only [reducer_argmin_f32_i32, Ideal.cmpf_def, Ideal.cmp]
  rcases lt_trichotomy a1 b1 with h | h | h
  · have one_or : ∀ x : BitVec 1, 1#1 ||| x = 1#1 := by decide
    simp [h, Scalar.select, IntOp.ori, IntOp.andi, one_or]
  · subst h
    by_cases hs : a2.slt b2 = true <;> simp [hs, Scalar.select, IntOp.ori, IntOp.andi, IntOp.cmpi]
  · simp [h, h.not_gt, h.ne', Scalar.select, IntOp.ori, IntOp.andi]

/-- A fold over a list by a choice between two, where `v` is met and always chosen, is `v`. -/
theorem foldl_eq {α : Type} (P : α → Prop) (f : α → α → α) (v : α) (hf : ∀ a b, f a b = a ∨ f a b = b) (hl : ∀ a, P a → f a v = v)
    (hr : ∀ b, P b → f v b = v) : ∀ (L : List α) (a : α), P a → (∀ b ∈ L, P b) → (a = v ∨ v ∈ L) → L.foldl f a = v
  | [], a, _, _, h => by rcases h with h | h; exacts [h, absurd h (List.not_mem_nil)]
  | b :: L, a, ha, hL, h => by
    have hb := hL b List.mem_cons_self
    refine foldl_eq P f v hf hl hr L (f a b) ?_ (fun c hc => hL c (List.mem_cons_of_mem _ hc)) ?_
    · rcases hf a b with e | e <;> rw [e] <;> assumption
    · rcases h with rfl | h
      · exact .inl (hr b hb)
      · rcases List.mem_cons.mp h with rfl | h
        · exact .inl (hl a ha)
        · exact .inr h

/-- Small column numbers compare as numbers. -/
theorem slt_ofNat (a b : ℕ) (ha : a < 2 ^ 31) (hb : b < 2 ^ 31) : (BitVec.ofNat 32 a).slt (BitVec.ofNat 32 b) = decide (a < b) := by
  have ea : (BitVec.ofNat 32 a).toInt = a := by rw [BitVec.toInt_eq_toNat_of_lt] <;> simp [BitVec.toNat_ofNat] <;> omega
  have eb : (BitVec.ofNat 32 b).toInt = b := by rw [BitVec.toInt_eq_toNat_of_lt] <;> simp [BitVec.toNat_ofNat] <;> omega
  rw [BitVec.slt_eq_decide, ea, eb]; simp

/-- The argmin's fold over the pairs of a row ends at the first smallest one. -/
theorem least_foldl (D : Fin 8192 → ℝ) (k : Fin 8192) (hk : Rows.Least D k) (L : List (EReal × BitVec 32))
    (hL : ∀ b ∈ L, ∃ x : Fin 8192, b = (((D x : ℝ) : EReal), BitVec.ofNat 32 x.val)) (hm : (((D k : ℝ) : EReal), BitVec.ofNat 32 k.val) ∈ L) :
    L.foldl (reducer_argmin_f32_i32 (F := Ideal)) (⊤, 0#32) = (((D k : ℝ) : EReal), BitVec.ofNat 32 k.val) := by
  refine foldl_eq (α := EReal × BitVec 32)
    (fun a => a = (⊤, 0#32) ∨ ∃ x : Fin 8192, a = (((D x : ℝ) : EReal), BitVec.ofNat 32 x.val))
    (reducer_argmin_f32_i32 (F := Ideal)) (((D k : ℝ) : EReal), BitVec.ofNat 32 k.val)
    (fun a b => by rw [reducer_eq]; split <;> simp)
    (fun a ha => by
      rw [reducer_eq, if_neg]
      rcases ha with rfl | ⟨x, rfl⟩
      · simp
      · simp only [EReal.coe_lt_coe_iff, EReal.coe_eq_coe_iff, slt_ofNat x.val k.val (by omega) (by omega), decide_eq_true_iff]
        rcases hk x with h | ⟨h, h'⟩
        · rintro (e | e)
          · exact absurd e h.not_gt
          · exact absurd e.1 h.ne'
        · rintro (e | e)
          · exact absurd e (h ▸ lt_irrefl _)
          · exact absurd e.2 (not_lt.mpr h'))
    (fun b hb => by
      rw [reducer_eq]
      rcases hb with rfl | ⟨x, rfl⟩
      · rw [if_pos]; exact .inl (EReal.coe_lt_top _)
      · simp only [EReal.coe_lt_coe_iff, EReal.coe_eq_coe_iff, slt_ofNat k.val x.val (by omega) (by omega), decide_eq_true_iff]
        rcases hk x with h | ⟨h, h'⟩
        · rw [if_pos (.inl h)]
        · rcases Nat.lt_or_ge k.val x.val with hx | hx
          · rw [if_pos (.inr ⟨h, hx⟩)]
          · have : k = x := Fin.ext (Nat.le_antisymm h' hx)
            subst this
            split <;> rfl)
    L (⊤, 0#32) (.inl rfl) (fun b hb => .inr (hL b hb)) (.inr hm)

/-- The pairs an argmin along the second axis goes over. -/
theorem mem_fiber {n0 n1 : ℕ} {α β : Type} (x : (⟨2, ![n0, n1]⟩ : Shape).Idx → α) (y : (⟨2, ![n0, n1]⟩ : Shape).Idx → β)
    (h : (⟨2, ![n0, n1]⟩ : Shape).ReducesTo [1] ⟨1, ![n0]⟩) (i : Fin n0) (b : α × β) :
    b ∈ Host.argReduceFiber x y h (ix1 i) ↔ ∃ k, b = (x (ix2 i k), y (ix2 i k)) := by
  constructor
  · intro hb
    obtain ⟨n, hn, rfl⟩ := List.mem_map.mp hb
    obtain ⟨k, hk⟩ := (Shape.ReducesTo.fiber_r2_a1 h (ix1 i) _).mp (of_decide_eq_true (List.mem_filter.mp hn).2)
    refine ⟨k, ?_⟩
    rw [← hk]; rfl
  · rintro ⟨k, rfl⟩
    refine List.mem_map.mpr ⟨Shape.rowMajor _ (ix2 i k), List.mem_filter.mpr ⟨List.mem_finRange _, decide_eq_true ?_⟩, ?_⟩
    · rw [Equiv.symm_apply_apply]
      exact (Shape.ReducesTo.fiber_r2_a1 h (ix1 i) _).mpr ⟨k, rfl⟩
    · rw [Equiv.symm_apply_apply]

/-- An argmin along the second axis, of a row of real values with their places, is the first smallest place. -/
theorem argmin_eq {n : ℕ} (d : FVec Ideal ⟨2, ![n, 8192]⟩ .f32) (y : (⟨2, ![n, 8192]⟩ : Shape).Idx → BitVec 32) {u : Shape}
    (ix : u.Idx → EReal) (iy : u.Idx → BitVec 32) (h : (⟨2, ![n, 8192]⟩ : Shape).ReducesTo [1] ⟨1, ![n]⟩) (hu : 0 < u.numel) (i : Fin n)
    (D : Fin 8192 → ℝ) (k : Fin 8192) (hk : Rows.Least D k) (hd : ∀ x, d (ix2 i x) = ((D x : ℝ) : EReal))
    (hy : ∀ x, y (ix2 i x) = BitVec.ofNat 32 x.val) (hx : ix (Shape.Idx.first hu) = ⊤) (hi : iy (Shape.Idx.first hu) = 0#32) :
    (Host.argReduce (φ := .f32) (reducer_argmin_f32_i32 (F := Ideal)) d y ix iy h hu (ix1 i)).2 = BitVec.ofNat 32 k.val := by
  have hm := fun b => mem_fiber (α := EReal) d y h i b
  rw [Ideal.argReduce_eq_reduce2, Host.reduce2_eq_foldl_fiber, hx, hi]
  generalize Host.argReduceFiber d y h (ix1 i) = L at hm ⊢
  refine congrArg Prod.snd (least_foldl D k hk L (fun b hb => ?_) ?_)
  · obtain ⟨x, rfl⟩ := (hm b).mp hb
    exact ⟨x, Prod.ext (hd x) (hy x)⟩
  · exact (hm _).mpr ⟨k, Prod.ext (hd k).symm (hy k).symm⟩

/-- The place numbers along the second axis. -/
theorem iota_eq (i : Fin 65536) (x : Fin 8192) : iotaInDim S65536x8192 32 1 (ix2 i x) = BitVec.ofNat 32 x.val := by
  pointwise

/-- `nearest` spelt out. -/
theorem nearest_def (d : FVec Ideal S65536x8192 .f32) : nearest d = fun j =>
    (Host.argReduce reducer_argmin_f32_i32 d (iotaInDim S65536x8192 32 1) (constant S_ .f32 0x7F800000#32) (constantI S_ 32 0#32)
      reducesTo_S65536x8192_S65536_d1 h_S_ j).2 := rfl

/-- The argmin of a row of real distances is its first smallest place. -/
theorem nearest_eq (d : FVec Ideal S65536x8192 .f32) (i : Fin 65536) (D : Fin 8192 → ℝ) (k : Fin 8192) (hk : Rows.Least D k)
    (hd : ∀ x, d (ix2 i x) = ((D x : ℝ) : EReal)) : nearest d (ix1 i) = BitVec.ofNat 32 k.val :=
  (congrFun (nearest_def d) (ix1 i)).trans
    (argmin_eq d (iotaInDim S65536x8192 32 1) (constant (F := Ideal) S_ .f32 0x7F800000#32) (constantI S_ 32 0#32)
      reducesTo_S65536x8192_S65536_d1 h_S_ i D k hk hd (iota_eq i) Rows.ofBits_top rfl)

/-! ## The row lookup -/

/-- A code's index is used as it is. -/
theorem wrapped_eq (w : IVec S65536 32) (i : Fin 65536) (k : Fin 8192) (hw : w (ix1 i) = BitVec.ofNat 32 k.val) :
    wrapped w (ix2 i 0) = BitVec.ofNat 32 k.val := by
  pointwise [wrapped]
  rw [hw]
  have : IntOp.cmpi .slt (BitVec.ofNat 32 k.val) 0#32 = 0#1 := by
    show BitVec.ofBool ((BitVec.ofNat 32 k.val).slt (BitVec.ofNat 32 0)) = 0#1
    rw [slt_ofNat k.val 0 (by omega) (by omega)]; simp
  rw [this]; rfl

/-- A code's index lies inside the codebook. -/
theorem inside_eq (w : IVec S65536x1 32) (i : Fin 65536) (k : Fin 8192) (hw : w (ix2 i 0) = BitVec.ofNat 32 k.val) : inside w (ix1 i) = 1#1 := by
  have h0 : IntOp.cmpi .sge (BitVec.ofNat 32 k.val) 0#32 = 1#1 := by
    show BitVec.ofBool ((BitVec.ofNat 32 0).sle (BitVec.ofNat 32 k.val)) = 1#1
    rw [BitVec.sle_eq_not_slt, slt_ofNat k.val 0 (by omega) (by omega)]; simp
  have h1 : IntOp.cmpi .sle (BitVec.ofNat 32 k.val) 8191#32 = 1#1 := by
    show BitVec.ofBool ((BitVec.ofNat 32 k.val).sle (BitVec.ofNat 32 8191)) = 1#1
    rw [BitVec.sle_eq_not_slt, slt_ofNat 8191 k.val (by omega) (by omega), decide_eq_false (by omega)]; rfl
  pointwise [inside]
  refine Rows.fold_eq IntOp.andi _ _ _ (0 : Fin 1) ?_ rfl fun x => ?_
  · rw [hw, h0, h1]; rfl
  · rw [Subsingleton.elim x 0, hw, h0, h1]; rfl

/-- Two spellings of an index of rank two. -/
theorem ix2_eq {n0 n1 : ℕ} (a : Fin n0) (b : Fin n1) : (ValueIdx.ix2 a b) = ix2 a b := by
  funext d; match d with | ⟨0, _⟩ => rfl | ⟨1, _⟩ => rfl

/-- The lookup of a code's index is that row of the codebook. -/
theorem lookup_eq (e : FVec Ideal S8192x64 .f32) (w : IVec S65536 32) (i : Fin 65536) (j : Fin 64) (k : Fin 8192)
    (hw : w (ix1 i) = BitVec.ofNat 32 k.val) : lookup e w (ix2 i j) = e (ix2 k j) := by
  have hg : Host.gather gather_S8192x64_S65536x1_S65536x64_1_0_n_n_0_1_164 e (wrapped w) (ValueIdx.ix2 i j) = e (ValueIdx.ix2 k j) :=
    Routing.gather_row (nb := 8192) (B := 64) (n := 65536) gather_S8192x64_S65536x1_S65536x64_1_0_n_n_0_1_164 rfl rfl rfl rfl rfl e (wrapped w) i j k
      (by rw [ix2_eq]; exact wrapped_eq w i k hw) (by norm_num)
  rw [ix2_eq, ix2_eq] at hg
  have hi := inside_eq (wrapped w) i k (wrapped_eq w i k hw)
  pointwise [lookup]
  rw [hi, hg]; rfl

/-! ## One stage -/

/-- The distances of a row, where the row and the codebook are real. -/
theorem dists_eq (r : FVec Ideal S65536x64 .f32) (e : FVec Ideal S8192x64 .f32) (i : Fin 65536) (R : Rows.Row) (E : Rows.Book)
    (hr : ∀ j, r (ix2 i j) = ((R j : ℝ) : EReal)) (he : ∀ k j, e (ix2 k j) = ((E k j : ℝ) : EReal)) (k : Fin 8192) :
    dists r e (ix2 i k) = ((Rows.sqDist R E k : ℝ) : EReal) := by
  pointwise [dists]
  simp only [hr, he, Rows.ofBits_two, Rows.sqDist]
  rw [EReal.coe_add, EReal.coe_sub, Finset.mul_sum, Rows.coe_sum, Rows.coe_sum, Rows.coe_sum]
  simp only [EReal.coe_mul, mul_assoc]

/-- A stage's quantized array, row by row. -/
theorem quant_eq (r : FVec Ideal S16x4096x64 .f32) (e : FVec Ideal S8192x64 .f32) (R : ℕ → Rows.Row) (E : Rows.Book)
    (hr : ∀ (a : Fin 16) (b : Fin 4096) j, r (ix3 a b j) = ((R (a.val * 4096 + b.val) j : ℝ) : EReal))
    (he : ∀ k j, e (ix2 k j) = ((E k j : ℝ) : EReal)) (a : Fin 16) (b : Fin 4096) (j : Fin 64) :
    quant r e (ix3 a b j) = ((E (Rows.code (R (a.val * 4096 + b.val)) E) j : ℝ) : EReal) := by
  pointwise [quant]
  rw [lookup_eq e _ _ j (Rows.code (R (a.val * 4096 + b.val)) E), he]
  refine nearest_eq _ _ _ _ (Rows.code_least _ _) (dists_eq _ _ _ _ _ (fun x => ?_) he)
  pointwise
  rw [hr]

/-- With real numbers the straight-through form is the quantized row. -/
theorem through_eq (r : FVec Ideal S16x4096x64 .f32) (e : FVec Ideal S8192x64 .f32) (R : ℕ → Rows.Row) (E : Rows.Book)
    (hr : ∀ (a : Fin 16) (b : Fin 4096) j, r (ix3 a b j) = ((R (a.val * 4096 + b.val) j : ℝ) : EReal))
    (he : ∀ k j, e (ix2 k j) = ((E k j : ℝ) : EReal)) (a : Fin 16) (b : Fin 4096) (j : Fin 64) :
    through r e (ix3 a b j) = ((E (Rows.code (R (a.val * 4096 + b.val)) E) j : ℝ) : EReal) := by
  show r (ix3 a b j) + (quant r e (ix3 a b j) - r (ix3 a b j)) = _
  rw [quant_eq r e R E hr he, hr, ← EReal.coe_sub, ← EReal.coe_add]
  congr 1; ring

/-- A stage's loss is five quarters of the mean squared error. -/
theorem stageLoss_eq (r : FVec Ideal S16x4096x64 .f32) (e : FVec Ideal S8192x64 .f32) (R Q : ℕ → Rows.Row)
    (hr : ∀ (a : Fin 16) (b : Fin 4096) j, r (ix3 a b j) = ((R (a.val * 4096 + b.val) j : ℝ) : EReal))
    (hq : ∀ (a : Fin 16) (b : Fin 4096) j, quant r e (ix3 a b j) = ((Q (a.val * 4096 + b.val) j : ℝ) : EReal)) :
    stageLoss r e ix0 = ((5 / 4 * (∑ p ∈ Finset.range 65536, ∑ j, (Q p j - R p j) * (Q p j - R p j)) / 4194304 : ℝ) : EReal) := by
  rw [Rows.sum_rows (fun p => ∑ j, (Q p j - R p j) * (Q p j - R p j)) 16 4096 65536 (by norm_num)]
  pointwise [stageLoss, meanSq]
  simp only [hr, hq, Rows.ofBits_count, Rows.ofBits_quarter, ← EReal.coe_sub, ← EReal.coe_mul, ← Rows.coe_sum]
  rw [Ideal.div_coe (by norm_num), ← EReal.coe_mul, ← EReal.coe_mul, ← EReal.coe_add]
  congr 1; ring

end Cert.ReferenceIdeal.Value
end
-- ==== Proof.Ref.Result.lean ====
/- What the reference's two results are on real inputs. -/
module

public import proofs.«01_k».proof.Proof.Ref.Value

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- A codebook out of the stack. -/
theorem codebook_eq (cb : FVec Ideal S8x8192x64 .f32) (k : Fin 8) (i : Fin 8192) (j : Fin 64) : codebook cb k.val (slices k) (ix2 i j) = cb (ix3 k i j) := by
  pointwise [codebook]

/-- After `n` stages the residual, the output and the loss are those of the real rows. -/
theorem stages_eq (cb : FVec Ideal S8x8192x64 .f32) (s : St Ideal) (X : ℕ → Rows.Row) (E : ℕ → Rows.Book)
    (he : ∀ (k : ℕ) (h : k < 8) i j, cb (ix3 ⟨k, h⟩ i j) = ((E k i j : ℝ) : EReal))
    (hx : ∀ (a : Fin 16) (b : Fin 4096) j, s.res (ix3 a b j) = ((X (a.val * 4096 + b.val) j : ℝ) : EReal))
    (ho : ∀ (a : Fin 16) (b : Fin 4096) j, s.out (ix3 a b j) = (0 : EReal)) (hl : s.loss ix0 = (0 : EReal)) : ∀ n ≤ 8,
    (∀ (a : Fin 16) (b : Fin 4096) j, (stages cb s n).res (ix3 a b j) = ((Rows.resid (X (a.val * 4096 + b.val)) E n j : ℝ) : EReal))
      ∧ (∀ (a : Fin 16) (b : Fin 4096) j, (stages cb s n).out (ix3 a b j) = ((Rows.total (X (a.val * 4096 + b.val)) E n j : ℝ) : EReal))
      ∧ (stages cb s n).loss ix0 = ((Rows.loss X E n : ℝ) : EReal)
  | 0, _ => ⟨hx, ho, by rw [Rows.loss, Finset.sum_range_zero]; exact hl⟩
  | n + 1, hn => by
    obtain ⟨h₁, h₂, h₃⟩ := stages_eq cb s X E he hx ho hl n (by omega)
    have hc : ∀ i j, codebook cb n (slices ⟨n, by omega⟩) (ix2 i j) = ((E n i j : ℝ) : EReal) := fun i j => by
      rw [← he n (by omega)]; exact codebook_eq cb ⟨n, by omega⟩ i j
    rw [stages, dif_pos (by omega : n < 8)]
    generalize codebook cb n _ = e at hc ⊢
    generalize stages cb s n = s' at h₁ h₂ h₃ ⊢
    have ht := through_eq s'.res e (fun p => Rows.resid (X p) E n) (E n) h₁ hc
    refine ⟨fun a b j => ?_, fun a b j => ?_, ?_⟩
    · show s'.res (ix3 a b j) - through s'.res e (ix3 a b j) = _
      rw [ht, h₁, ← EReal.coe_sub]; rfl
    · show s'.out (ix3 a b j) + through s'.res e (ix3 a b j) = _
      rw [ht, h₂, ← EReal.coe_add]; rfl
    · show s'.loss ix0 + stageLoss s'.res e ix0 = _
      rw [stageLoss_eq s'.res e (fun p => Rows.resid (X p) E n) (fun p => Rows.quant (X p) E n) h₁
        (quant_eq s'.res e (fun p => Rows.resid (X p) E n) (E n) h₁ hc), h₃, ← EReal.coe_add, Rows.loss, Rows.loss, Finset.sum_range_succ (fun k => 5 / 4 * Rows.err X E k / 4194304) n]
      rfl

end Cert.ReferenceIdeal.Value
end
-- ==== Proof.Ker.Block.lean ====
/- What one grid point of the kernel computes: the eight stages on its block of 256 rows, as a recursion over the stage. -/
module

public import proofs.«01_k».proof.Proof.Gen.KernelIdeal.Frame
public import Idealize.ShloMosaic.Lib.Pipeline.Value
public import Idealize.ShloMosaic.Lib.Pipeline.ReadBack
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

variable {F : FTy → Type} [FloatOps F]

/-! ## One stage -/

/-- The column numbers. -/
abbrev cols : IVec S256x8192 32 := iota .tc S256x8192 32 [1] iota_S256x8192_d1_w32

/-- The sum of the squares of each row. -/
def rowSq (r : FVec F S256x64 .f32) : FVec F S256x1 .f32 :=
  shapeCast S256x1 (multiReduction .add [1] S256 (mulf r r) 0x00000000#32 reduces_S256x64_S256 (.inl rfl) rfl) shapeCasts_S256_S256x1

/-- Twice the products of the rows with the codebook's rows. -/
def twice (r : FVec F S256x64 .f32) (e : FVec F S8192x64 .f32) : FVec F S256x8192 .f32 :=
  mulf (broadcast S256x8192 (Scalar.ofBits .f32 0x40000000#32))
    (matmul dot_S256x64_S8192x64_S256x8192_1_1_0_0_n_n none r e (constant S256x8192 .f32 0x00000000#32))

/-- Each row's distances to the codebook's rows, whose squared norms are `b`. -/
def dist (r : FVec F S256x64 .f32) (e : FVec F S8192x64 .f32) (b : Vec F S1x1x8192 .f32) : FVec F S256x8192 .f32 :=
  addf (subf (broadcastTo S256x8192 (rowSq r) broadcasts_S256x1_S256x8192) (twice r e))
    (broadcastTo S256x8192 (shapeCast S1x8192 b shapeCasts_S1x1x8192_S1x8192) broadcasts_S1x8192_S256x8192)

/-- The smallest entry of each row. -/
def least (d : FVec F S256x8192 .f32) : FVec F S256 .f32 :=
  multiReduction .minimumf [1] S256 d 0x7F800000#32 reduces_S256x8192_S256 (.inl rfl) rfl

/-- The first column at which each row has its smallest entry. -/
def first (d : FVec F S256x8192 .f32) : IVec S256 32 :=
  multiReductionI .minsi [1] S256
    (select (cmpf .oeq d (broadcastTo S256x8192 (shapeCast S256x1 (least d) shapeCasts_S256_S256x1) broadcasts_S256x1_S256x8192))
      cols (broadcast S256x8192 8192#32)) 2147483647#32 reduces_S256x8192_S256 rfl

/-- The codebook's rows at the columns `i`: a product with the columns' indicators. -/
def pick (i : IVec S256 32) (e : FVec F S8192x64 .f32) : FVec F S256x64 .f32 :=
  matmul dot_S256x8192_S8192x64_S256x64_1_0_0_1_n_n (some .fp32)
    (sitofp .f32 (extui 32 (cmpi .eq cols (broadcastTo S256x8192 (shapeCast S256x1 i shapeCasts_S256_S256x1) broadcasts_S256x1_S256x8192)) natLt_1_32))
    e (constant S256x64 .f32 0x00000000#32)

/-- The block's rows quantized by one codebook. -/
def quant (r : FVec F S256x64 .f32) (e : FVec F S8192x64 .f32) (b : Vec F S1x1x8192 .f32) : FVec F S256x64 .f32 :=
  pick (first (dist r e b)) e

/-- The squared errors summed over the block's rows. -/
def lossRow (r q : FVec F S256x64 .f32) : FVec F S1x64 .f32 :=
  shapeCast S1x64 (multiReduction .add [0] S64 (mulf (subf q r) (subf q r)) 0x00000000#32 reduces_S256x64_S64 (.inl rfl) rfl) shapeCasts_S64_S1x64

/-- A codebook's block as a matrix. -/
abbrev mat (e : Vec F S1x8192x64 .f32) : FVec F S8192x64 .f32 := shapeCast S8192x64 e shapeCasts_S1x8192x64_S8192x64

/-! Each stored or carried value of the kernel's body, as the body groups them, in the words of the definitions above: `payN` says what the
    body's `N`-th group is. -/

section Payloads

variable (x r q o : FVec F S256x64 .f32) (e : Vec F S1x8192x64 .f32) (e' : FVec F S8192x64 .f32) (b : Vec F S1x1x8192 .f32) (old : Vec F S1x64 .f32)

theorem pay1 : k0_pay1 (iota .tc S256x8192 32 [1] iota_S256x8192_d1_w32) e' (rowSq r) (twice r e') b = quant r e' b := rfl
theorem pay2 : k0_pay2 (iota .tc S256x8192 32 [1] iota_S256x8192_d1_w32) r e' (rowSq r) (twice r e') b old = addf (shapeCast S1x64 old shapeCasts_S1x64_S1x64) (lossRow r (quant r e' b)) := rfl
theorem pay3 : k0_pay3 (iota .tc S256x8192 32 [1] iota_S256x8192_d1_w32) o e' (rowSq r) (twice r e') b = addf o (quant r e' b) := rfl
theorem pay5 : k0_pay5 x = x := shapeCast_self x _
theorem pay7' : k0_pay7 x e b = quant (k0_pay5 x) (mat e) b := rfl
theorem pay7 : k0_pay7 x e b = quant x (mat e) b := by rw [pay7', pay5]
theorem pay8 : k0_pay8 old = shapeCast S1x64 old shapeCasts_S1x64_S1x64 := rfl
theorem pay9' : k0_pay9 x e b = mulf (subf (k0_pay7 x e b) (k0_pay5 x)) (subf (k0_pay7 x e b) (k0_pay5 x)) := rfl
theorem pay9 : k0_pay9 x e b = mulf (subf (quant x (mat e) b) x) (subf (quant x (mat e) b) x) := by rw [pay9', pay7, pay5]
theorem pay10 (v : FVec F S1x64 .f32) : k0_pay10 v (mulf (subf q r) (subf q r)) = addf v (lossRow r q) := rfl
theorem pay11 : k0_pay11 o q = addf o q := rfl
theorem pay12 : k0_pay12 r q = subf r q := rfl
theorem pay13 : k0_pay13 r (iota .tc S256x8192 32 [1] iota_S256x8192_d1_w32) q e b = quant (subf r q) (mat e) b := rfl
theorem pay14 : k0_pay14 r (iota .tc S256x8192 32 [1] iota_S256x8192_d1_w32) q e b old = addf (shapeCast S1x64 old shapeCasts_S1x64_S1x64) (lossRow (subf r q) (quant (subf r q) (mat e) b)) := rfl
theorem pay15 : k0_pay15 o q = addf o q := rfl
theorem pay16 : k0_pay16 r q = subf r q := rfl
theorem pay17 : k0_pay17 (iota .tc S256x8192 32 [1] iota_S256x8192_d1_w32) r q e b = quant (subf r q) (mat e) b := rfl
theorem pay18 : k0_pay18 (iota .tc S256x8192 32 [1] iota_S256x8192_d1_w32) r q e b old = addf (shapeCast S1x64 old shapeCasts_S1x64_S1x64) (lossRow (subf r q) (quant (subf r q) (mat e) b)) := rfl
theorem pay19 : k0_pay19 r q = subf r q := rfl
theorem pay20 : k0_pay20 (iota .tc S256x8192 32 [1] iota_S256x8192_d1_w32) r q e b = quant (subf r q) (mat e) b := rfl
theorem pay21 : k0_pay21 (iota .tc S256x8192 32 [1] iota_S256x8192_d1_w32) r q e b old = addf (shapeCast S1x64 old shapeCasts_S1x64_S1x64) (lossRow (subf r q) (quant (subf r q) (mat e) b)) := rfl
theorem pay22 : k0_pay22 (iota .tc S256x8192 32 [1] iota_S256x8192_d1_w32) o r q e b = addf (addf o q) (quant (subf r q) (mat e) b) := rfl
theorem pay23 : k0_pay23 (iota .tc S256x8192 32 [1] iota_S256x8192_d1_w32) r q e b = subf (subf r q) (quant (subf r q) (mat e) b) := rfl
theorem pay24 : k0_pay24 (iota .tc S256x8192 32 [1] iota_S256x8192_d1_w32) r e b = quant r (mat e) b := rfl
theorem pay25 : k0_pay25 (iota .tc S256x8192 32 [1] iota_S256x8192_d1_w32) r e b old = addf (shapeCast S1x64 old shapeCasts_S1x64_S1x64) (lossRow r (quant r (mat e) b)) := rfl
theorem pay26 : k0_pay26 (iota .tc S256x8192 32 [1] iota_S256x8192_d1_w32) o r e b = addf o (quant r (mat e) b) := rfl
theorem pay27 : k0_pay27 (iota .tc S256x8192 32 [1] iota_S256x8192_d1_w32) r e b = subf r (quant r (mat e) b) := rfl
theorem pay28 : k0_pay28 e = mat e := rfl
theorem pay29 : k0_pay29 (iota .tc S256x8192 32 [1] iota_S256x8192_d1_w32) r e b = mulf (subf r (quant r (mat e) b)) (subf r (quant r (mat e) b)) := rfl
theorem pay30 : k0_pay30 (iota .tc S256x8192 32 [1] iota_S256x8192_d1_w32) r e' (mulf r r) b = quant r e' b := rfl
theorem pay31 : k0_pay31 (iota .tc S256x8192 32 [1] iota_S256x8192_d1_w32) r e' (mulf r r) b old = addf (shapeCast S1x64 old shapeCasts_S1x64_S1x64) (lossRow r (quant r e' b)) := rfl
theorem pay32 : k0_pay32 (iota .tc S256x8192 32 [1] iota_S256x8192_d1_w32) o r e' (mulf r r) b = addf o (quant r e' b) := rfl
theorem pay33 : k0_pay33 (iota .tc S256x8192 32 [1] iota_S256x8192_d1_w32) r e' (mulf r r) b = subf r (quant r e' b) := rfl
theorem pay34 : k0_pay34 e = mat e := rfl
theorem pay35 : k0_pay35 (iota .tc S256x8192 32 [1] iota_S256x8192_d1_w32) r e' (mulf r r) b = rowSq (subf r (quant r e' b)) := rfl
theorem pay36 : k0_pay36 (iota .tc S256x8192 32 [1] iota_S256x8192_d1_w32) r e' (rowSq r) (constant S256x8192 .f32 0x00000000#32) b = quant r e' b := rfl
theorem pay37 : k0_pay37 (iota .tc S256x8192 32 [1] iota_S256x8192_d1_w32) r e' (rowSq r) (constant S256x8192 .f32 0x00000000#32) b old
    = addf (shapeCast S1x64 old shapeCasts_S1x64_S1x64) (lossRow r (quant r e' b)) := rfl
theorem pay38 : k0_pay38 (iota .tc S256x8192 32 [1] iota_S256x8192_d1_w32) o r e' (rowSq r) (constant S256x8192 .f32 0x00000000#32) b = addf o (quant r e' b) := rfl
theorem pay39 : k0_pay39 (iota .tc S256x8192 32 [1] iota_S256x8192_d1_w32) r e' (rowSq r) (constant S256x8192 .f32 0x00000000#32) b = subf r (quant r e' b) := rfl
theorem pay40 : k0_pay40 e = mat e := rfl
theorem pay41 : k0_pay41 (iota .tc S256x8192 32 [1] iota_S256x8192_d1_w32) r e' (rowSq r) (constant S256x8192 .f32 0x00000000#32) b = rowSq (subf r (quant r e' b)) := rfl
theorem pay42 : k0_pay42 (iota .tc S256x8192 32 [1] iota_S256x8192_d1_w32) r e' (rowSq r) (constant S256x8192 .f32 0x00000000#32) b e = twice (subf r (quant r e' b)) (mat e) := rfl

end Payloads

/-! ## The eight stages on one block -/

/-- Codebook `k` of the block of codebooks, as a matrix. -/
def book (x1 : Vec F S8x8192x64 .f32) (k : ℕ) : FVec F S8192x64 .f32 :=
  mat (View.ld x1 (Rect.unit (s := S8x8192x64) ![k % 8, 0, 0] ![1, 8192, 64] (by intro a; have := Nat.mod_lt k (by decide : 0 < 8); fin_cases a <;> simp; omega)))

/-- The squared norms of codebook `k`'s rows. -/
def norms (x2 : Vec F S8x1x8192 .f32) (k : ℕ) : Vec F S1x1x8192 .f32 :=
  View.ld x2 (Rect.unit (s := S8x1x8192) ![k % 8, 0, 0] ![1, 1, 8192] (by intro a; have := Nat.mod_lt k (by decide : 0 < 8); fin_cases a <;> simp; omega))

/-- The block's residual before stage `n`. -/
def res (x0 : FVec F S256x64 .f32) (x1 : Vec F S8x8192x64 .f32) (x2 : Vec F S8x1x8192 .f32) : ℕ → FVec F S256x64 .f32
  | 0 => x0
  | n + 1 => subf (res x0 x1 x2 n) (quant (res x0 x1 x2 n) (book x1 n) (norms x2 n))

/-- Stage `n`'s quantized rows. -/
abbrev quants (x0 : FVec F S256x64 .f32) (x1 : Vec F S8x8192x64 .f32) (x2 : Vec F S8x1x8192 .f32) (n : ℕ) : FVec F S256x64 .f32 :=
  quant (res x0 x1 x2 n) (book x1 n) (norms x2 n)

/-- The sum of the quantized rows of the stages before `n`. -/
def out (x0 : FVec F S256x64 .f32) (x1 : Vec F S8x8192x64 .f32) (x2 : Vec F S8x1x8192 .f32) : ℕ → FVec F S256x64 .f32
  | 0 => k0_pay6
  | n + 1 => addf (out x0 x1 x2 n) (quants x0 x1 x2 n)

/-- The zero offsets of a whole block. -/
theorem hz : (![0, 0] : Fin 2 → Nat) = fun _ => 0 := funext fun a => by fin_cases a <;> rfl

/-- A later point's output block is the sum of the eight stages' quantized rows. -/
theorem out_B_3 (c : Dev nD) (i : grid0.Coords) (a1 : Memref sig .tc .vmem S256x64 .f32) (h1 : a1.IsWhole)
    (a2 : Memref sig .tc .vmem S8x8192x64 .f32) (h2 : a2.IsWhole) (a3 : Memref sig .tc .vmem S8x1x8192 .f32) (h3 : a3.IsWhole)
    (a4 : Memref sig .tc .vmem S256x64 .f32) (h4 : a4.IsWhole) (a5 : Memref sig .tc .vmem S8x64 .f32) (h5 : a5.IsWhole)
    (hc : ¬cond0_0 i) (x0 : Vec F S256x64 .f32) (x1 : Vec F S8x8192x64 .f32) (x2 : Vec F S8x1x8192 .f32) (xo : Vec F S8x64 .f32) :
    out0_B_3 c i a1 h1 a2 h2 a3 h3 a4 h4 a5 h5 hc x0 x1 x2 xo = out x0 x1 x2 8 := by
  unfold out0_B_3
  rw [View.read_writes_eq_canon _ _ _ (cover0_B_3 c i a1 h1 a2 h2 a3 h3 a4 h4 a5 h5 hc x0 x1 x2 xo)]
  unfold kernelRun0_B
  dsimp only
  rw [View.canon_unit_zero hz]
  sl_unfold_words
  simp only [View.readAt_eq_ld, h1.read_unread, h2.read_unread, h3.read_unread, View.ld_unit_zero (S := S256x64) hz]
  simp only [pay1, pay2, pay3, pay5, pay7, pay8, pay9, pay10, pay11, pay12, pay13, pay14, pay15, pay16, pay17, pay18, pay19, pay20,
    pay21, pay22, pay23, pay24, pay25, pay26, pay27, pay28, pay29, pay30, pay31, pay32, pay33, pay34, pay35, pay36, pay37, pay38,
    pay39, pay40, pay41, pay42]
  simp only [out, quants, res]
  rfl

/-- So is the first point's. -/
theorem out_A_3 (c : Dev nD) (i : grid0.Coords) (a1 : Memref sig .tc .vmem S256x64 .f32) (h1 : a1.IsWhole)
    (a2 : Memref sig .tc .vmem S8x8192x64 .f32) (h2 : a2.IsWhole) (a3 : Memref sig .tc .vmem S8x1x8192 .f32) (h3 : a3.IsWhole)
    (a4 : Memref sig .tc .vmem S256x64 .f32) (h4 : a4.IsWhole) (a5 : Memref sig .tc .vmem S8x64 .f32) (h5 : a5.IsWhole)
    (hc : cond0_0 i) (x0 : Vec F S256x64 .f32) (x1 : Vec F S8x8192x64 .f32) (x2 : Vec F S8x1x8192 .f32) :
    out0_A_3 c i a1 h1 a2 h2 a3 h3 a4 h4 a5 h5 hc x0 x1 x2 = out x0 x1 x2 8 := by
  unfold out0_A_3
  rw [View.read_writes_eq_canon _ _ _ (cover0_A_3 c i a1 h1 a2 h2 a3 h3 a4 h4 a5 h5 hc x0 x1 x2)]
  unfold kernelRun0_A
  dsimp only
  rw [View.canon_unit_zero hz]
  sl_unfold_words
  simp only [View.readAt_eq_ld, h1.read_unread, h2.read_unread, h3.read_unread, View.ld_unit_zero (S := S256x64) hz]
  simp only [pay1, pay2, pay3, pay5, pay7, pay8, pay9, pay10, pay11, pay12, pay13, pay14, pay15, pay16, pay17, pay18, pay19, pay20,
    pay21, pay22, pay23, pay24, pay25, pay26, pay27, pay28, pay29, pay30, pay31, pay32, pay33, pay34, pay35, pay36, pay37, pay38,
    pay39, pay40, pay41, pay42]
  simp only [out, quants, res]
  rfl

/-- The loss array `xo` with stage `k`'s row of losses `L k` added to its row `k`. -/
def addRows (xo : Vec F S8x64 .f32) (L : ℕ → FVec F S1x64 .f32) : Vec F S8x64 .f32 := fun y =>
  addf (fun _ : S1x64.Idx => xo y) (L (y 0)) (ix2 0 (y 1))

/-- Stage `n`'s row of losses on one block. -/
def losses (x0 : FVec F S256x64 .f32) (x1 : Vec F S8x8192x64 .f32) (x2 : Vec F S8x1x8192 .f32) (n : ℕ) : FVec F S1x64 .f32 :=
  lossRow (res x0 x1 x2 n) (quants x0 x1 x2 n)

/-- The row stored by stage `k`, read at an index, is the row of `addRows`. -/
theorem stored_row (xo : Vec F S8x64 .f32) (L : ℕ → FVec F S1x64 .f32) (k : ℕ) (inb) (R : FVec F S1x64 .f32) (hR : R = L k)
    (x : S1x64.Idx) :
    addf (shapeCast S1x64 (View.ld xo (Rect.unit (s := S8x64) ![k, 0] ![1, 64] inb)) shapeCasts_S1x64_S1x64) R x
      = addRows xo L ((Rect.unit (s := S8x64) ![k, 0] ![1, 64] inb).emb x) := by
  subst hR
  have h0 : (x 0).val = 0 := by have : (x 0).val < 1 := (x 0).isLt; omega
  have hs : shapeCast S1x64 (View.ld xo (Rect.unit (s := S8x64) ![k, 0] ![1, 64] inb)) shapeCasts_S1x64_S1x64
      = View.ld xo (Rect.unit (s := S8x64) ![k, 0] ![1, 64] inb) := shapeCast_self (s := S1x64) _ _
  rw [hs]
  unfold addRows
  have e0 : (((Rect.unit (s := S8x64) ![k, 0] ![1, 64] inb).emb x) 0 : ℕ) = k := by
    show k + 1 * (x 0).val = k; omega
  have e1 : ix2 (0 : Fin 1) (((Rect.unit (s := S8x64) ![k, 0] ![1, 64] inb).emb x) 1) = x := by
    funext a
    apply Fin.ext
    match a with
    | ⟨0, _⟩ => exact h0.symm
    | ⟨1, _⟩ => show 0 + 1 * (x 1).val = (x 1).val; omega
  rw [e0]
  erw [e1]
  rfl

/-- An index lies in the row its first coordinate names. -/
theorem row_mem (y : S8x64.Idx) (k : ℕ) (inb) (h : (y 0).val = k) :
    y ∈ (Rect.unit (s := S8x64) ![k, 0] ![1, 64] inb).set := by
  refine Rect.mem_set_unit.mpr fun a => ?_
  match a with
  | ⟨0, _⟩ => exact ⟨h.ge, by show (y 0).val < k + 1; omega⟩
  | ⟨1, _⟩ => exact ⟨Nat.zero_le _, by show (y 1).val < 0 + 64; have := (y 1).isLt; exact (Nat.zero_add 64).symm ▸ this⟩

/-- A later point adds its eight rows of losses to the loss array it finds. -/
theorem out_B_4 (c : Dev nD) (i : grid0.Coords) (a1 : Memref sig .tc .vmem S256x64 .f32) (h1 : a1.IsWhole)
    (a2 : Memref sig .tc .vmem S8x8192x64 .f32) (h2 : a2.IsWhole) (a3 : Memref sig .tc .vmem S8x1x8192 .f32) (h3 : a3.IsWhole)
    (a4 : Memref sig .tc .vmem S256x64 .f32) (h4 : a4.IsWhole) (a5 : Memref sig .tc .vmem S8x64 .f32) (h5 : a5.IsWhole)
    (hc : ¬cond0_0 i) (x0 : Vec F S256x64 .f32) (x1 : Vec F S8x8192x64 .f32) (x2 : Vec F S8x1x8192 .f32) (xo : Vec F S8x64 .f32) :
    out0_B_4 c i a1 h1 a2 h2 a3 h3 a4 h4 a5 h5 hc x0 x1 x2 xo = addRows xo (losses x0 x1 x2) := by
  unfold out0_B_4
  have hcov := cover0_B_4 c i a1 h1 a2 h2 a3 h3 a4 h4 a5 h5 hc x0 x1 x2 xo
  rw [View.read_writes_eq_canon _ _ _ hcov]
  funext y
  refine View.canon_apply_of_pieces (addRows xo (losses x0 x1 x2)) _ (View.PiecesOf.mem ?_) y (hcov y)
  unfold kernelRun0_B
  dsimp only
  sl_unfold_words
  simp only [View.readAt_eq_ld, h1.read_unread, h2.read_unread, h3.read_unread, h5.read_unread, View.ld_unit_zero (S := S256x64) hz]
  simp only [pay1, pay2, pay3, pay5, pay7, pay8, pay9, pay10, pay11, pay12, pay13, pay14, pay15, pay16, pay17, pay18, pay19, pay20,
    pay21, pay22, pay23, pay24, pay25, pay26, pay27, pay28, pay29, pay30, pay31, pay32, pay33, pay34, pay35, pay36, pay37, pay38,
    pay39, pay40, pay41, pay42]
  refine ⟨?_, ?_, ?_, ?_, ?_, ?_, ?_, ?_, trivial⟩
  all_goals
    intro x
    exact stored_row xo (losses x0 x1 x2) _ _ _ rfl x

/-- The first point adds them to the zero it stores. -/
theorem out_A_4 (c : Dev nD) (i : grid0.Coords) (a1 : Memref sig .tc .vmem S256x64 .f32) (h1 : a1.IsWhole)
    (a2 : Memref sig .tc .vmem S8x8192x64 .f32) (h2 : a2.IsWhole) (a3 : Memref sig .tc .vmem S8x1x8192 .f32) (h3 : a3.IsWhole)
    (a4 : Memref sig .tc .vmem S256x64 .f32) (h4 : a4.IsWhole) (a5 : Memref sig .tc .vmem S8x64 .f32) (h5 : a5.IsWhole)
    (hc : cond0_0 i) (x0 : Vec F S256x64 .f32) (x1 : Vec F S8x8192x64 .f32) (x2 : Vec F S8x1x8192 .f32) :
    out0_A_4 c i a1 h1 a2 h2 a3 h3 a4 h4 a5 h5 hc x0 x1 x2 = addRows k0_pay4 (losses x0 x1 x2) := by
  unfold out0_A_4
  have hcov := cover0_A_4 c i a1 h1 a2 h2 a3 h3 a4 h4 a5 h5 hc x0 x1 x2
  rw [View.read_writes_eq_canon _ _ _ hcov]
  funext y
  unfold kernelRun0_A
  dsimp only
  sl_unfold_words
  simp only [View.readAt_eq_ld, h1.read_unread, h2.read_unread, h3.read_unread, View.ld_unit_zero (S := S256x64) hz]
  simp only [pay1, pay2, pay3, pay5, pay7, pay8, pay9, pay10, pay11, pay12, pay13, pay14, pay15, pay16, pay17, pay18, pay19, pay20,
    pay21, pay22, pay23, pay24, pay25, pay26, pay27, pay28, pay29, pay30, pay31, pay32, pay33, pay34, pay35, pay36, pay37, pay38,
    pay39, pay40, pay41, pay42]
  refine View.canon_append_of_piecesOf (addRows k0_pay4 (losses x0 x1 x2)) [_] [_, _, _, _, _, _, _, _] ?_ y ?_
  · refine ⟨?_, ?_, ?_, ?_, ?_, ?_, ?_, ?_, trivial⟩
    all_goals
      intro x
      simp (disch := decide) only [View.readCov_skip, View.readCov_fill]
      exact stored_row k0_pay4 (losses x0 x1 x2) _ _ _ rfl x
  · have hy : (y 0).val < 8 := (y 0).isLt
    obtain h | h | h | h | h | h | h | h : (y 0).val = 0 ∨ (y 0).val = 1 ∨ (y 0).val = 2 ∨ (y 0).val = 3 ∨ (y 0).val = 4 ∨
        (y 0).val = 5 ∨ (y 0).val = 6 ∨ (y 0).val = 7 := by omega
    · exact ⟨_, .tail _ (.tail _ (.tail _ (.tail _ (.tail _ (.tail _ (.tail _ (.head _))))))), row_mem y _ inb_S8x64_S1x64_0_0 h⟩
    · exact ⟨_, .tail _ (.tail _ (.tail _ (.tail _ (.tail _ (.tail _ (.head _)))))), row_mem y _ inb_S8x64_S1x64_1_0 h⟩
    · exact ⟨_, .tail _ (.tail _ (.tail _ (.tail _ (.tail _ (.head _))))), row_mem y _ inb_S8x64_S1x64_2_0 h⟩
    · exact ⟨_, .tail _ (.tail _ (.tail _ (.tail _ (.head _)))), row_mem y _ inb_S8x64_S1x64_3_0 h⟩
    · exact ⟨_, .tail _ (.tail _ (.tail _ (.head _))), row_mem y _ inb_S8x64_S1x64_4_0 h⟩
    · exact ⟨_, .tail _ (.tail _ (.head _)), row_mem y _ inb_S8x64_S1x64_5_0 h⟩
    · exact ⟨_, .tail _ (.head _), row_mem y _ inb_S8x64_S1x64_6_0 h⟩
    · exact ⟨_, .head _, row_mem y _ inb_S8x64_S1x64_7_0 h⟩

end Cert.KernelIdeal.Block
end
-- ==== Proof.Ker.Arrays.lean ====
/- What the kernel's two arrays hold when its grid is done: block by block the output, and the loss array as a sum over the blocks in grid order. -/
module

public import proofs.«01_k».proof.Proof.Ker.Block
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Idealize.ShloMosaic.StableHlo

variable {F : FTy → Type} [FloatOps F]

/-! ## The arrays the grid reads -/

/-- The rows of `x`. -/
abbrev rows (x : FVec F S16x4096x64 .f32) : FVec F S65536x64 .f32 := shapeCast S65536x64 x shapeCasts_S16x4096x64_S65536x64

/-- The squared norms of the codebooks' rows. -/
def sqNorms (e : FVec F S8x8192x64 .f32) : FVec F S8x1x8192 .f32 :=
  broadcastInDim S8x1x8192 ![0, 2] bcast_S8x8192_S8x1x8192_0_2
    (Host.reduceAdd (mulf e e) (constant S_ .f32 0x00000000#32) reducesTo_S8x8192x64_S8x8192_d2 h_S_)

/-- Block `n` of 256 rows. -/
def block (x : FVec F S65536x64 .f32) (n : ℕ) : FVec F S256x64 .f32 := fun j =>
  x (ix2 ⟨(256 * n + (j 0).val) % 65536, Nat.mod_lt _ (by decide)⟩ (j 1))

variable (m : (ℓ : Loc nD τ sig) → Buf (Elt F) ℓ)

/-- The grid finds the rows of `x` in its first operand. -/
theorem V_rows (c : Dev nD) : V m c main_v0 = rows (m (c.tc.loc main_arg0)) := by
  show StableHlo.after (List.flatten [hostOps0]) _ (Proc.devRef .tc main_v0) = _
  simp only [Gen.hostOps0, List.flatten_cons, List.flatten_nil, List.append_nil]
  after_results <;> rfl

/-- The grid finds the squared norms in its third operand. -/
theorem V_sqNorms (c : Dev nD) : V m c main_v3 = sqNorms (m (c.tc.loc main_arg1)) := by
  show StableHlo.after (List.flatten [hostOps0]) _ (Proc.devRef .tc main_v3) = _
  simp only [Gen.hostOps0, List.flatten_cons, List.flatten_nil, List.append_nil]
  after_results <;> rfl

/-- Point `t` takes block `t` of the rows. -/
theorem index0 : ∀ t : Fin cfg0.N, win0_0.index t = ![t.val, 0] :=
  (by decide +kernel : ∀ t : Fin grid0.N, win0_0.index t = ![t.val, 0])
/-- Every point takes all the codebooks. -/
theorem index1 : ∀ t : Fin cfg0.N, win0_1.index t = ![0, 0, 0] :=
  (by decide +kernel : ∀ t : Fin grid0.N, win0_1.index t = ![0, 0, 0])
/-- Every point takes all the squared norms. -/
theorem index2 : ∀ t : Fin cfg0.N, win0_2.index t = ![0, 0, 0] :=
  (by decide +kernel : ∀ t : Fin grid0.N, win0_2.index t = ![0, 0, 0])
/-- Point `t` writes block `t` of the output. -/
theorem index3 : ∀ t : Fin cfg0.N, win0_3.index t = ![t.val, 0] :=
  (by decide +kernel : ∀ t : Fin grid0.N, win0_3.index t = ![t.val, 0])

/-- Point `t` reads block `t` of the rows. -/
theorem iblk_0 (c : Dev nD) (t : Fin cfg0.N) : (iblk m c 0 t : Vec F S256x64 .f32) = block (rows (m (c.tc.loc main_arg0))) t.val := by
  have ht : t.val < 256 := lt_of_lt_of_eq t.isLt (show cfg0.N = 256 from N_0)
  funext j
  have hj : (j 0).val < 256 := (j 0).isLt
  rw [← V_rows]
  unfold block
  blk_simp [iblk]
  congr 1
  blk_ext [index0]

/-- Every point reads all the codebooks. -/
theorem iblk_1 (c : Dev nD) (t : Fin cfg0.N) : (iblk m c 1 t : Vec F S8x8192x64 .f32) = m (c.tc.loc main_arg1) := by
  rw [← V_main_arg1 m c]
  funext j
  blk_simp [iblk]
  congr 1
  blk_ext [index1]

/-- Every point reads all the squared norms. -/
theorem iblk_2 (c : Dev nD) (t : Fin cfg0.N) : (iblk m c 2 t : Vec F S8x1x8192 .f32) = sqNorms (m (c.tc.loc main_arg1)) := by
  rw [← V_sqNorms]
  funext j
  blk_simp [iblk]
  congr 1
  blk_ext [index2]

/-! ## The arrays it leaves -/

/-- The output array: row `i` is row `i % 256` of block `i / 256`'s output. -/
def outArr (x : FVec F S65536x64 .f32) (e : FVec F S8x8192x64 .f32) : FVec F S65536x64 .f32 := fun i =>
  out (block x ((i 0).val / 256)) e (sqNorms e) 8 (ix2 ⟨(i 0).val % 256, Nat.mod_lt _ (by decide)⟩ (i 1))

/-- The loss array after point `n`. -/
def lossArr (x : FVec F S65536x64 .f32) (e : FVec F S8x8192x64 .f32) : ℕ → FVec F S8x64 .f32
  | 0 => addRows k0_pay4 (losses (block x 0) e (sqNorms e))
  | n + 1 => addRows (lossArr x e n) (losses (block x (n + 1)) e (sqNorms e))

/-- Point `t` writes the output of its block. -/
theorem outsAt_1 (c : Dev nD) (t : Fin cfg0.N) : (outsAt0 m c t.val t.isLt).1
    = out (block (rows (m (c.tc.loc main_arg0))) t.val) (m (c.tc.loc main_arg1)) (sqNorms (m (c.tc.loc main_arg1))) 8 := by
  rw [← iblk_0, ← iblk_2 m c t, ← iblk_1 m c t]
  by_cases h0 : t.val % 256 = 0
  · rw [outsAt0_A m c t h0]
    dsimp only
    exact out_A_3 (F := F) ..
  · rw [outsAt0_B m c t h0]
    dsimp only
    exact out_B_3 (F := F) ..

/-- After point `n` the loss buffer holds the sum over the blocks up to `n`. -/
theorem outsAt_2 (c : Dev nD) : ∀ (n : ℕ) (h : n < cfg0.N), (outsAt0 m c n h).2
    = lossArr (rows (m (c.tc.loc main_arg0))) (m (c.tc.loc main_arg1)) n
  | 0, h => by
    show (outsAt0 m c (⟨0, h⟩ : Fin cfg0.N).val _).2 = _
    rw [outsAt0_A m c ⟨0, h⟩ rfl]
    unfold lossArr
    rw [← iblk_0 m c ⟨0, h⟩, ← iblk_2 m c ⟨0, h⟩, ← iblk_1 m c ⟨0, h⟩]
    dsimp only
    exact out_A_4 (F := F) ..
  | n + 1, h => by
    have hN : cfg0.N = 256 := N_0
    have hB : ¬(⟨n + 1, h⟩ : Fin cfg0.N).val % 256 = 0 := by dsimp only; omega
    show (outsAt0 m c (⟨n + 1, h⟩ : Fin cfg0.N).val _).2 = _
    rw [outsAt0_B m c ⟨n + 1, h⟩ hB]
    unfold lossArr
    rw [← outsAt_2 c n (Nat.lt_of_succ_lt h), ← iblk_0 m c ⟨n + 1, h⟩, ← iblk_2 m c ⟨n + 1, h⟩, ← iblk_1 m c ⟨n + 1, h⟩]
    dsimp only
    exact out_B_4 (F := F) ..

/-- The output array when the grid is done. -/
theorem arr_3 (c : Dev nD) : (dats m 0 c).arrAt 3 cfg0.N = outArr (rows (m (c.tc.loc main_arg0))) (m (c.tc.loc main_arg1)) := by
  refine (dats m 0 c).arrAt_eq_of_covers 3 _ (by decide +kernel) fun t hf y => ?_
  have ht : t.val < 256 := lt_of_lt_of_eq t.isLt (show cfg0.N = 256 from N_0)
  rw [after0_3, outsAt_1]
  unfold outArr
  blk_simp [index3]
  have hy : (y 0).val < 256 := (y 0).isLt
  rw [show (t.val * 256 + (y 0).val) / 256 = t.val by omega]
  congr 1
  funext a
  apply Fin.ext
  match a with
  | ⟨0, _⟩ => show (y 0).val = (t.val * 256 + (y 0).val) % 256; omega
  | ⟨1, _⟩ => show (y 1).val = ((win0_3.blk t).view.emb y 1 : ℕ); blk_simp [index3]

/-- The loss array when the grid is done. -/
theorem arr_4 (c : Dev nD) : (dats m 0 c).arrAt 4 cfg0.N = lossArr (rows (m (c.tc.loc main_arg0))) (m (c.tc.loc main_arg1)) 255 := by
  refine (dats m 0 c).arrAt_eq_of_after_last 4 ⟨255, by rw [show cfg0.N = 256 from N_0]; decide⟩ (by decide +kernel) _ fun j => ?_
  rw [after0_4, outsAt_2]
  rfl

end Cert.KernelIdeal.Block
end
-- ==== Proof.Ker.Value.lean ====
/- The kernel's block computation on real inputs: each stage's arrays are the real rows of `Cert.Rows`. -/
module

public import proofs.«01_k».proof.Proof.Ker.Arrays
public import proofs.«01_k».proof.Proof.Rows

@[expose] public section

set_option maxRecDepth 16384

noncomputable section

open Idealize.ShloMosaic Idealize.ShloMosaic.TcCoe Idealize.SL.Sem

namespace Cert.KernelIdeal.Block

open Cert.KernelIdeal Cert.KernelIdeal.Gen Idealize.ShloMosaic.StableHlo

/-! ## One stage at one row -/

/-- The smaller of two small column numbers. -/
theorem minsi_ofNat (a b : ℕ) (h : a ≤ b) (hb : b < 2 ^ 31) : IntOp.minsi (BitVec.ofNat 32 a) (BitVec.ofNat 32 b) = BitVec.ofNat 32 a := by
  have ea : (BitVec.ofNat 32 a).toInt = a := by rw [BitVec.toInt_eq_toNat_of_lt] <;> simp [BitVec.toNat_ofNat] <;> omega
  have eb : (BitVec.ofNat 32 b).toInt = b := by rw [BitVec.toInt_eq_toNat_of_lt] <;> simp [BitVec.toNat_ofNat] <;> omega
  unfold IntOp.minsi
  split
  · rfl
  · rename_i hs
    rw [BitVec.slt_eq_decide, ea, eb, decide_eq_true_iff] at hs
    rw [show b = a by omega]

/-- Two column numbers are the same word only when they are the same. -/
theorem ofNat_inj (a b : Fin 8192) (h : BitVec.ofNat 32 a.val = BitVec.ofNat 32 b.val) : a = b := by
  have := congrArg BitVec.toNat h
  simp only [BitVec.toNat_ofNat] at this
  apply Fin.ext; omega

/-- A row's smallest distance is the one at its nearest code. -/
theorem least_eq (d : FVec Ideal S256x8192 .f32) (i : Fin 256) (D : Fin 8192 → ℝ) (k : Fin 8192) (hk : Rows.Least D k)
    (hd : ∀ x, d (ix2 i x) = ((D x : ℝ) : EReal)) : least d (ix1 i) = ((D k : ℝ) : EReal) := by
  pointwise [least]
  refine Rows.fold_eq min _ _ _ k (hd k) ?_ fun x => ?_
  · rw [Rows.ofBits_top]; exact min_eq_left le_top
  · rw [hd x]; exact min_eq_left (EReal.coe_le_coe_iff.mpr (hk.le x))

/-- The first column of a row's smallest distance is its nearest code. -/
theorem first_eq (d : FVec Ideal S256x8192 .f32) (i : Fin 256) (D : Fin 8192 → ℝ) (k : Fin 8192) (hk : Rows.Least D k)
    (hd : ∀ x, d (ix2 i x) = ((D x : ℝ) : EReal)) : first d (ix1 i) = BitVec.ofNat 32 k.val := by
  pointwise [first]
  refine Rows.fold_eq IntOp.minsi _ _ _ k ?_ ?_ fun x => ?_
  · rw [if_pos]; rw [hd k, least_eq d i D k hk hd]
  · exact minsi_ofNat k.val 2147483647 (by omega) (by norm_num)
  · rw [hd x, least_eq d i D k hk hd]
    split
    · rename_i h
      refine minsi_ofNat k.val x.val ?_ (by omega)
      rcases hk x with h' | h'
      · exact absurd (EReal.coe_eq_coe_iff.mp h).symm h'.ne
      · exact h'.2
    · exact minsi_ofNat k.val 8192 (by omega) (by norm_num)

/-- The product with a column's indicator picks that row of the codebook. -/
theorem pick_eq (w : IVec S256 32) (e : FVec Ideal S8192x64 .f32) (i : Fin 256) (j : Fin 64) (k : Fin 8192) (hw : w (ix1 i) = BitVec.ofNat 32 k.val) :
    pick w e (ix2 i j) = e (ix2 k j) := by
  pointwise [pick]
  rw [hw, Finset.sum_eq_single k]
  · have : (FloatOps.sitofp (F := Ideal) .f32 (BitVec.setWidth 32 (IntOp.cmpi .eq (BitVec.ofNat 32 k.val) (BitVec.ofNat 32 k.val))) : EReal) = 1 := by
      rw [show IntOp.cmpi .eq (BitVec.ofNat 32 k.val) (BitVec.ofNat 32 k.val) = 1#1 by simp [IntOp.cmpi]]
      show (((BitVec.setWidth 32 1#1).toInt : ℝ) : EReal) = 1
      norm_num
    erw [this]; exact one_mul _
  · intro x _ hx
    have : (FloatOps.sitofp (F := Ideal) .f32 (BitVec.setWidth 32 (IntOp.cmpi .eq (BitVec.ofNat 32 x.val) (BitVec.ofNat 32 k.val))) : EReal) = 0 := by
      rw [show IntOp.cmpi .eq (BitVec.ofNat 32 x.val) (BitVec.ofNat 32 k.val) = 0#1 by
        have : BitVec.ofNat 32 x.val ≠ BitVec.ofNat 32 k.val := fun h => hx (ofNat_inj x k h)
        rw [← beq_eq_false_iff_ne] at this
        show BitVec.ofBool (BitVec.ofNat 32 x.val == BitVec.ofNat 32 k.val) = 0#1
        rw [this]; rfl]
      show (((BitVec.setWidth 32 0#1).toInt : ℝ) : EReal) = 0
      norm_num
    erw [this]; exact zero_mul _
  · intro h; exact absurd (Finset.mem_univ _) h

/-- A row's distances, where the row, the codebook and its squared norms are real. -/
theorem dist_eq (r : FVec Ideal S256x64 .f32) (e : FVec Ideal S8192x64 .f32) (b : Vec Ideal S1x1x8192 .f32) (i : Fin 256) (R : Rows.Row) (E : Rows.Book)
    (hr : ∀ j, r (ix2 i j) = ((R j : ℝ) : EReal)) (he : ∀ k j, e (ix2 k j) = ((E k j : ℝ) : EReal))
    (hb : ∀ k, b (ix3 0 0 k) = ((∑ j, E k j * E k j : ℝ) : EReal)) (k : Fin 8192) : dist r e b (ix2 i k) = ((Rows.sqDist R E k : ℝ) : EReal) := by
  pointwise [dist, rowSq, twice]
  simp only [hr, he, Rows.ofBits_two, Rows.sqDist]
  rw [hb k, EReal.coe_add, EReal.coe_sub, EReal.coe_mul, Rows.coe_sum, Rows.coe_sum, Rows.coe_sum]
  simp only [EReal.coe_mul]

/-- A stage's quantized row is the nearest code's row. -/
theorem quant_eq (r : FVec Ideal S256x64 .f32) (e : FVec Ideal S8192x64 .f32) (b : Vec Ideal S1x1x8192 .f32) (i : Fin 256) (R : Rows.Row) (E : Rows.Book)
    (hr : ∀ j, r (ix2 i j) = ((R j : ℝ) : EReal)) (he : ∀ k j, e (ix2 k j) = ((E k j : ℝ) : EReal))
    (hb : ∀ k, b (ix3 0 0 k) = ((∑ j, E k j * E k j : ℝ) : EReal)) (j : Fin 64) : quant r e b (ix2 i j) = ((E (Rows.code R E) j : ℝ) : EReal) := by
  unfold quant
  rw [pick_eq _ e i j (Rows.code R E) (first_eq _ i _ _ (Rows.code_least R E) (dist_eq r e b i R E hr he hb)), he]

/-! ## The stages at one row -/

section Stages

variable (x0 : Vec Ideal S256x64 .f32) (x1 : Vec Ideal S8x8192x64 .f32) (x2 : Vec Ideal S8x1x8192 .f32) (E : ℕ → Rows.Book)
  (h1 : ∀ (k : ℕ) (h : k < 8) i j, x1 (ix3 ⟨k, h⟩ i j) = ((E k i j : ℝ) : EReal))
  (h2 : ∀ (k : ℕ) (h : k < 8) i, x2 (ix3 ⟨k, h⟩ 0 i) = ((∑ j, E k i j * E k i j : ℝ) : EReal))

include h1 in
/-- Stage `k` reads the `k`-th codebook. -/
theorem book_eq (k : ℕ) (hk : k < 8) (i : Fin 8192) (j : Fin 64) : book x1 k (ix2 i j) = ((E k i j : ℝ) : EReal) := by
  rw [← h1 k hk]
  pointwise [book, View.ld]
  congr 2; exact Fin.ext (Nat.mod_eq_of_lt hk)

include h2 in
/-- Stage `k` reads the `k`-th row of squared norms. -/
theorem norms_eq (k : ℕ) (hk : k < 8) (i : Fin 8192) : norms x2 k (ix3 0 0 i) = ((∑ j, E k i j * E k i j : ℝ) : EReal) := by
  rw [← h2 k hk]
  pointwise [norms, View.ld]
  congr 2; exact Fin.ext (Nat.mod_eq_of_lt hk)

variable (i : Fin 256) (X : Rows.Row) (h0 : ∀ j, x0 (ix2 i j) = ((X j : ℝ) : EReal))

include h0 h1 h2

/-- The residual's row before stage `n`. -/
theorem res_eq (n : ℕ) (hn : n ≤ 8) (j : Fin 64) : res x0 x1 x2 n (ix2 i j) = ((Rows.resid X E n j : ℝ) : EReal) := by
  induction n generalizing j with
  | zero => exact h0 j
  | succ n ih =>
    have ih' := ih (by omega)
    show res x0 x1 x2 n (ix2 i j) - quant (res x0 x1 x2 n) (book x1 n) (norms x2 n) (ix2 i j) = _
    rw [quant_eq _ _ _ i _ _ ih' (book_eq x1 E h1 n (by omega)) (norms_eq x2 E h2 n (by omega)), ih', ← EReal.coe_sub]
    rfl

/-- The quantized row of stage `n`. -/
theorem quants_eq (n : ℕ) (hn : n < 8) (j : Fin 64) : quants x0 x1 x2 n (ix2 i j) = ((Rows.quant X E n j : ℝ) : EReal) :=
  quant_eq _ _ _ i _ _ (res_eq x0 x1 x2 E h1 h2 i X h0 n hn.le) (book_eq x1 E h1 n hn) (norms_eq x2 E h2 n hn) j

/-- The output's row after `n` stages. -/
theorem out_eq (n : ℕ) (hn : n ≤ 8) (j : Fin 64) : out x0 x1 x2 n (ix2 i j) = ((Rows.total X E n j : ℝ) : EReal) := by
  induction n with
  | zero => exact Ideal.ofBits_zero_f32
  | succ n ih =>
    show out x0 x1 x2 n (ix2 i j) + quants x0 x1 x2 n (ix2 i j) = _
    rw [ih (by omega), quants_eq x0 x1 x2 E h1 h2 i X h0 n hn, ← EReal.coe_add]
    rfl

end Stages

/-! ## The squared errors -/

/-- A block's squared errors of stage `n`, summed over its rows. -/
theorem losses_eq (x0 : Vec Ideal S256x64 .f32) (x1 : Vec Ideal S8x8192x64 .f32) (x2 : Vec Ideal S8x1x8192 .f32) (E : ℕ → Rows.Book)
    (h1 : ∀ (k : ℕ) (h : k < 8) i j, x1 (ix3 ⟨k, h⟩ i j) = ((E k i j : ℝ) : EReal))
    (h2 : ∀ (k : ℕ) (h : k < 8) i, x2 (ix3 ⟨k, h⟩ 0 i) = ((∑ j, E k i j * E k i j : ℝ) : EReal))
    (X : Fin 256 → Rows.Row) (h0 : ∀ i j, x0 (ix2 i j) = ((X i j : ℝ) : EReal)) (n : ℕ) (hn : n < 8) (j : Fin 64) :
    losses x0 x1 x2 n (ix2 0 j) = ((∑ i, Rows.sqErr (X i) E n j : ℝ) : EReal) := by
  show lossRow (res x0 x1 x2 n) (quants x0 x1 x2 n) (ix2 0 j) = _
  have hr : ∀ i j, res x0 x1 x2 n (ix2 i j) = _ := fun i j => res_eq x0 x1 x2 E h1 h2 i (X i) (h0 i) n hn.le j
  have hq : ∀ i j, quants x0 x1 x2 n (ix2 i j) = _ := fun i j => quants_eq x0 x1 x2 E h1 h2 i (X i) (h0 i) n hn j
  generalize res x0 x1 x2 n = r at hr
  generalize quants x0 x1 x2 n = q at hq
  pointwise [lossRow]
  simp only [hr, hq, Rows.coe_sum, Rows.sqErr, EReal.coe_mul, EReal.coe_sub]

end Cert.KernelIdeal.Block
end
-- ==== Proof.Ker.Result.lean ====
/- What the kernel's two results are on real inputs. -/
module

public import proofs.«01_k».proof.Proof.Ker.Value

@[expose] public section

set_option maxRecDepth 16384

noncomputable section

open Idealize.ShloMosaic Idealize.ShloMosaic.TcCoe Idealize.SL.Sem

namespace Cert.KernelIdeal.Block

open Cert.KernelIdeal Cert.KernelIdeal.Gen Idealize.ShloMosaic.StableHlo

section

variable (x : FVec Ideal S16x4096x64 .f32) (e : FVec Ideal S8x8192x64 .f32) (X : ℕ → Rows.Row) (E : ℕ → Rows.Book)
  (hx : ∀ (a : Fin 16) (b : Fin 4096) j, x (ix3 a b j) = ((X (a.val * 4096 + b.val) j : ℝ) : EReal))
  (he : ∀ (k : ℕ) (h : k < 8) i j, e (ix3 ⟨k, h⟩ i j) = ((E k i j : ℝ) : EReal))

include hx in
/-- The rows in one list. -/
theorem rows_eq (p : Fin 65536) (j : Fin 64) : rows x (ix2 p j) = ((X p.val j : ℝ) : EReal) := by
  have h : rows x (ix2 p j) = x (ix3 ⟨p.val / 4096, by omega⟩ ⟨p.val % 4096, by omega⟩ j) := by pointwise
  rw [h, hx]
  refine congrArg (fun n => ((X n j : ℝ) : EReal)) ?_
  exact Nat.div_add_mod' _ _

include hx in
/-- A block of the rows. -/
theorem block_eq (t : ℕ) (ht : t < 256) (i : Fin 256) (j : Fin 64) : block (rows x) t (ix2 i j) = ((X (256 * t + i.val) j : ℝ) : EReal) := by
  have h := rows_eq x X hx ⟨(256 * t + i.val) % 65536, Nat.mod_lt _ (by decide)⟩ j
  rw [show (256 * t + i.val) = (256 * t + i.val) % 65536 by omega]
  exact h

include he in
/-- The codebooks' squared norms. -/
theorem sqNorms_eq (k : ℕ) (hk : k < 8) (i : Fin 8192) : sqNorms e (ix3 ⟨k, hk⟩ 0 i) = ((∑ j, E k i j * E k i j : ℝ) : EReal) := by
  have h : sqNorms e (ix3 ⟨k, hk⟩ 0 i) = ∑ j, e (ix3 ⟨k, hk⟩ i j) * e (ix3 ⟨k, hk⟩ i j) := by pointwise [sqNorms]
  rw [h, Rows.coe_sum]
  simp only [he, EReal.coe_mul]

include hx he

/-- The output array's rows. -/
theorem outArr_eq (p : Fin 65536) (j : Fin 64) : outArr (rows x) e (ix2 p j) = ((Rows.total (X p.val) E 8 j : ℝ) : EReal) := by
  have h := out_eq (block (rows x) (p.val / 256)) e (sqNorms e) E he (sqNorms_eq e E he) ⟨p.val % 256, by omega⟩ (X p.val) (fun j => by
    rw [block_eq x X hx (p.val / 256) (by omega)]
    rw [show 256 * (p.val / 256) + p.val % 256 = p.val by omega]) 8 le_rfl j
  exact h

/-- The loss array after `n + 1` blocks. -/
theorem lossArr_eq (k : ℕ) (hk : k < 8) (j : Fin 64) (n : ℕ) (hn : n < 256) :
    lossArr (rows x) e n (ix2 ⟨k, hk⟩ j) = ((∑ t ∈ Finset.range (n + 1), ∑ i : Fin 256, Rows.sqErr (X (256 * t + i.val)) E k j : ℝ) : EReal) := by
  have hl : ∀ t, t < 256 → losses (block (rows x) t) e (sqNorms e) k (ix2 0 j) = ((∑ i : Fin 256, Rows.sqErr (X (256 * t + i.val)) E k j : ℝ) : EReal) :=
    fun t ht => losses_eq _ e (sqNorms e) E he (sqNorms_eq e E he) (fun i => X (256 * t + i.val)) (block_eq x X hx t ht) k hk j
  induction n with
  | zero =>
    show k0_pay4 (F := Ideal) (ix2 ⟨k, hk⟩ j) + losses (block (rows x) 0) e (sqNorms e) k (ix2 0 j) = _
    rw [hl 0 (by omega), Finset.sum_range_one]
    have hz : (k0_pay4 (F := Ideal) (ix2 ⟨k, hk⟩ j) : EReal) = 0 := Ideal.ofBits_zero_f32
    erw [hz]; exact zero_add _
  | succ n ih =>
    show lossArr (rows x) e n (ix2 ⟨k, hk⟩ j) + losses (block (rows x) (n + 1)) e (sqNorms e) k (ix2 0 j) = _
    rw [ih (by omega), hl (n + 1) hn, Finset.sum_range_succ _ (n + 1), EReal.coe_add]

/-- The output. -/
theorem result0 (a : Fin 16) (b : Fin 4096) (j : Fin 64) :
    shapeCast S16x4096x64 (outArr (rows x) e) shapeCasts_S65536x64_S16x4096x64 (ix3 a b j) = ((Rows.total (X (a.val * 4096 + b.val)) E 8 j : ℝ) : EReal) := by
  have h := outArr_eq x e X E hx he ⟨a.val * 4096 + b.val, by omega⟩ j
  rw [← h]
  generalize outArr (rows x) e = o
  pointwise

/-- The loss. -/
theorem result1 : Host.divf (mulf (constant S_ .f32 0x3FA00000#32) (Host.reduceAdd (lossArr (rows x) e 255) (constant S_ .f32 0x00000000#32)
    reducesTo_S8x64_S_d0_1 h_S_)) (constant S_ .f32 0x4A800000#32) ix0 = ((Rows.loss X E 8 : ℝ) : EReal) := by
  have hL := fun k hk j => lossArr_eq x e X E hx he k hk j 255 (by omega)
  generalize lossArr (rows x) e 255 = L at hL
  have h : Host.reduceAdd L (constant S_ .f32 0x00000000#32) reducesTo_S8x64_S_d0_1 h_S_ ix0 = ∑ k : Fin 8, ∑ j : Fin 64, L (ix2 k j) := by pointwise
  show Ideal.div (Ideal.ofBits .f32 0x3FA00000#32 * Host.reduceAdd L (constant S_ .f32 0x00000000#32) reducesTo_S8x64_S_d0_1 h_S_ ix0)
    (Ideal.ofBits .f32 0x4A800000#32) = _
  rw [h, Rows.ofBits_five_quarters, Rows.ofBits_count, Ideal.div_coe (by norm_num), ← Rows.loss_blocks]
  have hs : ∑ k : Fin 8, ∑ j : Fin 64, L (ix2 k j)
      = ((∑ k : Fin 8, ∑ j : Fin 64, ∑ t ∈ Finset.range 256, ∑ i : Fin 256, Rows.sqErr (X (256 * t + i.val)) E k.val j : ℝ) : EReal) := by
    rw [Rows.coe_sum]
    refine Finset.sum_congr rfl fun k _ => ?_
    rw [Rows.coe_sum]
    exact Finset.sum_congr rfl fun j _ => hL k.val k.isLt j
  rw [hs, EReal.coe_mul, EReal.coe_mul]

end

end Cert.KernelIdeal.Block
end
-- ==== Proof.Finite.lean ====
/- The precondition read back: every entry of the two arguments is a real number. -/
module

public import proofs.«01_k».proof.Pre_finite
public import proofs.«01_k».proof.Proof.Rows
public import Idealize.ShloMosaic.Lib.ReduceAll

@[expose] public section

set_option maxRecDepth 16384

noncomputable section

namespace Cert.Pre_finite

open Idealize.ShloMosaic

/-- The shapes of the precondition's operations fit. -/
theorem facts : Cert.Pre_finite.Facts where
  bcast_S_S16x4096x64 := by decide
  reducesTo_S16x4096x64_S_d0_1_2 := by decide
  h_S_ := by decide
  bcast_S_S8x8192x64 := by decide
  reducesTo_S8x8192x64_S_d0_1_2 := by decide

/-- An entry that passes the test is real. -/
theorem coe_of_cmp (v : EReal) (h : Ideal.cmp .olt (max v (-v)) (Ideal.ofBits .f32 0x7F800000#32) = 1#1) : v = ((v.toReal : ℝ) : EReal) := by
  rw [Rows.ofBits_top] at h
  have h' : max v (-v) < ⊤ := by
    by_contra hc
    simp [Ideal.cmp, hc] at h
  refine (EReal.coe_toReal ?_ ?_).symm
  · rintro rfl; simp at h'
  · rintro rfl; simp at h'

/-- Where both arguments pass, all their entries are real. -/
theorem real_of_fn (x : FVec Ideal S16x4096x64 .f32) (e : FVec Ideal S8x8192x64 .f32)
    (h : (haveI := facts; Cert.Pre_finite.fn (F := Ideal) x e) = fun _ => 1#1) :
    (∀ i, x i = (((x i : EReal).toReal : ℝ) : EReal)) ∧ ∀ i, e i = (((e i : EReal).toReal : ℝ) : EReal) := by
  have h0 := congrFun h (ix0)
  have split : ∀ a b : BitVec 1, IntOp.andi a b = 1#1 → a = 1#1 ∧ b = 1#1 := by decide
  obtain ⟨h1, h2⟩ := split _ _ h0
  haveI : Subsingleton S_.Idx := ⟨fun a b => funext fun d => d.elim0⟩
  exact ⟨fun i => coe_of_cmp _ (Host.reduce_andi_all _ _ _ _ _ h1 i), fun i => coe_of_cmp _ (Host.reduce_andi_all _ _ _ _ _ h2 i)⟩

end Cert.Pre_finite
end
-- ==== Proof.Values.lean ====
/- The two programs' results agree where the arguments are real. -/
module

public import proofs.«01_k».proof.Proof.Ref.Result
public import proofs.«01_k».proof.Proof.Ker.Result
public import proofs.«01_k».proof.Proof.Finite
public import proofs.«01_k».proof.Proof.Gen.KernelIdeal.Run

@[expose] public section

set_option maxRecDepth 16384

noncomputable section

namespace Cert.Values

open Idealize.ShloMosaic Idealize.ShloMosaic.TcCoe Idealize.ShloMosaic.StableHlo Idealize.SL.Sem

section

variable (x : FVec Ideal Cert.KernelIdeal.S16x4096x64 .f32) (e : FVec Ideal Cert.KernelIdeal.S8x8192x64 .f32)

/-- The rows of `x` as real numbers. -/
def realRows (p : ℕ) : Rows.Row := fun j =>
  (x (ix3 ⟨p / 4096 % 16, Nat.mod_lt _ (by decide)⟩ ⟨p % 4096, Nat.mod_lt _ (by decide)⟩ j) : EReal).toReal

/-- The codebooks as real numbers. -/
def realBooks (k : ℕ) : Rows.Book := fun i j => (e (ix3 ⟨k % 8, Nat.mod_lt _ (by decide)⟩ i j) : EReal).toReal

variable (hx : ∀ i, x i = (((x i : EReal).toReal : ℝ) : EReal)) (he : ∀ i, e i = (((e i : EReal).toReal : ℝ) : EReal))

include hx in
/-- Where the entries of `x` are real, its rows are the real rows. -/
theorem rows_real (a : Fin 16) (b : Fin 4096) (j : Fin 64) : x (ix3 a b j) = ((realRows x (a.val * 4096 + b.val) j : ℝ) : EReal) := by
  have h : ix3 (n2 := 64) ⟨(a.val * 4096 + b.val) / 4096 % 16, Nat.mod_lt _ (by decide)⟩ ⟨(a.val * 4096 + b.val) % 4096, Nat.mod_lt _ (by decide)⟩ j = ix3 a b j := by
    congr 1 <;> apply Fin.ext
    · show (a.val * 4096 + b.val) / 4096 % 16 = a.val; omega
    · show (a.val * 4096 + b.val) % 4096 = b.val; omega
  unfold realRows
  rw [h]; exact hx _

include he in
/-- Where the entries of the codebooks are real, they are the real codebooks. -/
theorem books_real (k : ℕ) (hk : k < 8) (i : Fin 8192) (j : Fin 64) : e (ix3 ⟨k, hk⟩ i j) = ((realBooks e k i j : ℝ) : EReal) := by
  have h : (⟨k % 8, Nat.mod_lt _ (by decide)⟩ : Fin 8) = ⟨k, hk⟩ := Fin.ext (Nat.mod_eq_of_lt hk)
  unfold realBooks
  rw [h]; exact he _

/-- What the reference starts its stages from. -/
abbrev start : Cert.ReferenceIdeal.Value.St Ideal :=
  ⟨x, broadcastInDim Cert.ReferenceIdeal.S16x4096x64 ![] Cert.ReferenceIdeal.Facts₀.bcast_S_S16x4096x64 (constant Cert.ReferenceIdeal.S_ .f32 0x00000000#32),
    constant Cert.ReferenceIdeal.S_ .f32 0x00000000#32, e⟩

include hx he

/-- The outputs agree. -/
theorem out_eq : (Cert.ReferenceIdeal.Value.stages e (start x e) 8).out
    = shapeCast Cert.KernelIdeal.S16x4096x64 (Cert.KernelIdeal.Block.outArr (Cert.KernelIdeal.Block.rows x) e)
        Cert.KernelIdeal.Facts₀.shapeCasts_S65536x64_S16x4096x64 := by
  funext i
  obtain ⟨a, b, j, rfl⟩ : ∃ (a : Fin 16) (b : Fin 4096) (j : Fin 64), i = ix3 a b j :=
    ⟨i 0, i 1, i 2, by funext d; match d with | ⟨0, _⟩ => rfl | ⟨1, _⟩ => rfl | ⟨2, _⟩ => rfl⟩
  exact ((Cert.ReferenceIdeal.Value.stages_eq e (start x e) (realRows x) (realBooks e) (books_real e he) (rows_real x hx)
    (fun _ _ _ => Ideal.ofBits_zero_f32) Ideal.ofBits_zero_f32 8 le_rfl).2.1 a b j).trans
    (Cert.KernelIdeal.Block.result0 x e (realRows x) (realBooks e) (rows_real x hx) (books_real e he) a b j).symm

/-- The losses agree. -/
theorem loss_eq : (Cert.ReferenceIdeal.Value.stages e (start x e) 8).loss
    = Host.divf (mulf (constant Cert.KernelIdeal.S_ .f32 0x3FA00000#32)
        (Host.reduceAdd (Cert.KernelIdeal.Block.lossArr (Cert.KernelIdeal.Block.rows x) e 255) (constant Cert.KernelIdeal.S_ .f32 0x00000000#32)
          Cert.KernelIdeal.Facts₀.reducesTo_S8x64_S_d0_1 Cert.KernelIdeal.Facts₀.h_S_)) (constant Cert.KernelIdeal.S_ .f32 0x4A800000#32) := by
  funext i
  obtain rfl : i = ix0 := funext fun d => d.elim0
  exact ((Cert.ReferenceIdeal.Value.stages_eq e (start x e) (realRows x) (realBooks e) (books_real e he) (rows_real x hx)
    (fun _ _ _ => Ideal.ofBits_zero_f32) Ideal.ofBits_zero_f32 8 le_rfl).2.2).trans
    (Cert.KernelIdeal.Block.result1 x e (realRows x) (realBooks e) (rows_real x hx) (books_real e he)).symm

end

end Cert.Values
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Values
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Kernel

/-- The reference terminates with its arguments unchanged; it has no counter that could be left over. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

/-- From finite arguments that agree, both programs end with the same output and the same loss. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨_, _, Cert.KernelIdeal.Value.run (F := Ideal) m g, ?_⟩
  refine (θ_run Cert.ReferenceIdeal.defs _ _).mono (fun r h c => ?_) (Cert.ReferenceIdeal.Value.run (F := Ideal) m' g')
  obtain ⟨h0, h1, h2, h3⟩ := h c
  obtain ⟨a0, a1⟩ := hagree c
  obtain ⟨hx, he⟩ := Cert.Pre_finite.real_of_fn _ _ (hpre c)
  have hs : Cert.ReferenceIdeal.Value.stateAt 0 (Idealize.ShloMosaic.StableHlo.launchContents m' c)
      = Cert.Values.start (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
    (Cert.ReferenceIdeal.Value.St.mk.injEq ..).mpr ⟨a0, rfl, rfl, a1⟩
  rw [hs, a1] at h0 h1
  refine ⟨h0.trans ?_, h1.trans ?_, h2, h3⟩
  · refine (Cert.Values.out_eq _ _ hx he).trans ?_
    unfold Cert.KernelIdeal.Value.reg_main_v4_0
    rw [Cert.KernelIdeal.Block.arr_3]
  · refine (Cert.Values.loss_eq _ _ hx he).trans ?_
    unfold Cert.KernelIdeal.Value.reg_main_v4_1
    rw [Cert.KernelIdeal.Block.arr_4]

/-- All the claims. -/
theorem claim : Cert.Claim := ⟨Cert.Kernel.Gen.facts, Cert.KernelIdeal.Gen.facts, Cert.ReferenceIdeal.Gen.facts, Cert.Pre_finite.facts,
  fun m g _ => Cert.Kernel.Gen.frame m g, fun m g _ => Cert.KernelIdeal.Gen.frame m g, fun m g _ => Cert.KernelIdeal.Gen.frame m g,
  fun m g _ => reference_frame m g, fun m g _ => reference_frame m g, trivial, algebraic⟩

end Cert.Proof

end
